-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.bf16_pack.Statement Cert.KernelIdeal.S32x128
  ∧ IdealRules.bf16_pack.Statement Cert.KernelIdeal.S128x128
  ∧ IdealRules.bf16_pack.Statement Cert.KernelIdeal.S128x4
  ∧ IdealRules.bf16_pack.Statement Cert.KernelIdeal.S32x4
  ∧ IdealRules.bf16_pack.Statement Cert.KernelIdeal.S8192x32
  ∧ IdealRules.bf16_pack.Statement Cert.KernelIdeal.S8192x128
  ∧ IdealRules.bf16_pack.Statement Cert.KernelIdeal.S8192x4
  ∧ IdealRules.bf16_pack.Statement Cert.KernelIdeal.S16x5

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S32768x32 : Shape := ⟨2, ![32768, 32]⟩
abbrev S32768 : Shape := ⟨1, ![32768]⟩
abbrev S32x128 : Shape := ⟨2, ![32, 128]⟩
abbrev S128 : Shape := ⟨1, ![128]⟩
abbrev S128x128 : Shape := ⟨2, ![128, 128]⟩
abbrev S160x256 : Shape := ⟨2, ![160, 256]⟩
abbrev S256 : Shape := ⟨1, ![256]⟩
abbrev S4x64 : Shape := ⟨2, ![4, 64]⟩
abbrev S_ : Shape := ⟨0, ![]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_1 : S32768.Slices ![1] S32767
  slices_S32768_S32767_0 : S32768.Slices ![0] S32767
  reducesTo_S32767_S_d0 : S32767.ReducesTo [0] S_
  bcast_S_S32768x32 : S_.BroadcastsInDim S32768x32 (![] : Fin 0 → Fin S32768x32.rank)
  reducesTo_S32768x32_S_d0_1 : S32768x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S160x256 : S_.BroadcastsInDim S160x256 (![] : Fin 0 → Fin S160x256.rank)
  reducesTo_S160x256_S_d0_1 : S160x256.ReducesTo [0, 1] S_
  bcast_S_S4x64 : S_.BroadcastsInDim S4x64 (![] : Fin 0 → Fin S4x64.rank)
  reducesTo_S4x64_S_d0_1 : S4x64.ReducesTo [0, 1] S_

variable [Facts]

def fn_part3 {F : FTy → Type} [FloatOps F] (main_arg10 : FVec F S160x256 .f32) (main_arg12 : FVec F S4x64 .f32) (main_v50 : IVec S_ 1) (main_v51 : FVec F S128 .f32) : IVec S_ 1 :=
  let main_cst_18 : FVec F S_ .f32 := constant S_ .f32 0x7F800000#32
  let main_v52 : FVec F S128 .f32 := broadcastInDim S128 ![] bcast_S_S128 main_cst_18
  let main_v53 : IVec S128 1 := cmpf .olt main_v51 main_v52
  let main_c_19 : IVec S_ 1 := constantI S_ 1 1#1
  let main_v54 : IVec S_ 1 := (fun x v => Host.reduce IntOp.andi x v reducesTo_S128_S_d0 h_S_) main_v53 main_c_19
  let main_v55 : IVec S_ 1 := andi main_v50 main_v54
  let main_v56 : FVec F S160x256 .f32 := Host.absf main_arg10
  let main_cst_20 : FVec F S_ .f32 := constant S_ .f32 0x7F800000#32
  let main_v57 : FVec F S160x256 .f32 := broadcastInDim S160x256 ![] bcast_S_S160x256 main_cst_20
  let main_v58 : IVec S160x256 1 := cmpf .olt main_v56 main_v57
  let main_c_21 : IVec S_ 1 := constantI S_ 1 1#1
  let main_v59 : IVec S_ 1 := (fun x v => Host.reduce IntOp.andi x v reducesTo_S160x256_S_d0_1 h_S_) main_v58 main_c_21
  let main_v60 : IVec S_ 1 := andi main_v55 main_v59
  let main_v61 : FVec F S4x64 .f32 := Host.absf main_arg12
  let main_cst_22 : FVec F S_ .f32 := constant S_ .f32 0x7F800000#32
  let main_v62 : FVec F S4x64 .f32 := broadcastInDim S4x64 ![] bcast_S_S4x64 main_cst_22
  let main_v63 : IVec S4x64 1 := cmpf .olt main_v61 main_v62
  let main_c_23 : IVec S_ 1 := constantI S_ 1 1#1
  let main_v64 : IVec S_ 1 := (fun x v => Host.reduce IntOp.andi x v reducesTo_S4x64_S_d0_1 h_S_) main_v63 main_c_23
  let main_v65 : IVec S_ 1 := andi main_v60 main_v64
  main_v65

def fn_part2 {F : FTy → Type} [FloatOps F] (main_arg6 : FVec F S128x128 .f32) (main_arg7 : FVec F S128 .f32) (main_arg8 : FVec F S128x128 .f32) (main_arg9 : FVec F S128 .f32) (main_arg10 : FVec F S160x256 .f32) (main_arg12 : FVec F S4x64 .f32) (main_v30 : IVec S_ 1) (main_v33 : IVec S128 1) (main_c_11 : IVec S_ 1) : IVec S_ 1 :=
  let main_v34 : IVec S_ 1 := (fun x v => Host.reduce IntOp.andi x v reducesTo_S128_S_d0 h_S_) main_v33 main_c_11
  let main_v35 : IVec S_ 1 := andi main_v30 main_v34
  let main_v36 : FVec F S128x128 .f32 := Host.absf main_arg6
  let main_cst_12 : FVec F S_ .f32 := constant S_ .f32 0x7F800000#32
  let main_v37 : FVec F S128x128 .f32 := broadcastInDim S128x128 ![] bcast_S_S128x128 main_cst_12
  let main_v38 : IVec S128x128 1 := cmpf .olt main_v36 main_v37
  let main_c_13 : IVec S_ 1 := constantI S_ 1 1#1
  let main_v39 : IVec S_ 1 := (fun x v => Host.reduce IntOp.andi x v reducesTo_S128x128_S_d0_1 h_S_) main_v38 main_c_13
  let main_v40 : IVec S_ 1 := andi main_v35 main_v39
  let main_v41 : FVec F S128 .f32 := Host.absf main_arg7
  let main_cst_14 : FVec F S_ .f32 := constant S_ .f32 0x7F800000#32
  let main_v42 : FVec F S128 .f32 := broadcastInDim S128 ![] bcast_S_S128 main_cst_14
  let main_v43 : IVec S128 1 := cmpf .olt main_v41 main_v42
  let main_c_15 : IVec S_ 1 := constantI S_ 1 1#1
  let main_v44 : IVec S_ 1 := (fun x v => Host.reduce IntOp.andi x v reducesTo_S128_S_d0 h_S_) main_v43 main_c_15
  let main_v45 : IVec S_ 1 := andi main_v40 main_v44
  let main_v46 : FVec F S128x128 .f32 := Host.absf main_arg8
  let main_cst_16 : FVec F S_ .f32 := constant S_ .f32 0x7F800000#32
  let main_v47 : FVec F S128x128 .f32 := broadcastInDim S128x128 ![] bcast_S_S128x128 main_cst_16
  let main_v48 : IVec S128x128 1 := cmpf .olt main_v46 main_v47
  let main_c_17 : IVec S_ 1 := constantI S_ 1 1#1
  let main_v49 : IVec S_ 1 := (fun x v => Host.reduce IntOp.andi x v reducesTo_S128x128_S_d0_1 h_S_) main_v48 main_c_17
  let main_v50 : IVec S_ 1 := andi main_v45 main_v49
  let main_v51 : FVec F S128 .f32 := Host.absf main_arg9
  fn_part3 (F := F) main_arg10 main_arg12 main_v50 main_v51

def fn_part1 {F : FTy → Type} [FloatOps F] (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S160x256 .f32) (main_arg12 : FVec F S4x64 .f32) (main_v15 : IVec S_ 1) (main_v16 : FVec F S32x128 .f32) (main_cst_4 : FVec F S_ .f32) : IVec S_ 1 :=
  let main_v17 : FVec F S32x128 .f32 := broadcastInDim S32x128 ![] bcast_S_S32x128 main_cst_4
  let main_v18 : IVec S32x128 1 := cmpf .olt main_v16 main_v17
  let main_c_5 : IVec S_ 1 := constantI S_ 1 1#1
  let main_v19 : IVec S_ 1 := (fun x v => Host.reduce IntOp.andi x v reducesTo_S32x128_S_d0_1 h_S_) main_v18 main_c_5
  let main_v20 : IVec S_ 1 := andi main_v15 main_v19
  let main_v21 : FVec F S128 .f32 := Host.absf main_arg3
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  let main_v26 : FVec F S128x128 .f32 := Host.absf main_arg4
  let main_cst_8 : FVec F S_ .f32 := constant S_ .f32 0x7F800000#32
  let main_v27 : FVec F S128x128 .f32 := broadcastInDim S128x128 ![] bcast_S_S128x128 main_cst_8
  let main_v28 : IVec S128x128 1 := cmpf .olt main_v26 main_v27
  let main_c_9 : IVec S_ 1 := constantI S_ 1 1#1
  let main_v29 : IVec S_ 1 := (fun x v => Host.reduce IntOp.andi x v reducesTo_S128x128_S_d0_1 h_S_) main_v28 main_c_9
  let main_v30 : IVec S_ 1 := andi main_v25 main_v29
  let main_v31 : FVec F S128 .f32 := Host.absf main_arg5
  let main_cst_10 : FVec F S_ .f32 := constant S_ .f32 0x7F800000#32
  let main_v32 : FVec F S128 .f32 := broadcastInDim S128 ![] bcast_S_S128 main_cst_10
  let main_v33 : IVec S128 1 := cmpf .olt main_v31 main_v32
  let main_c_11 : IVec S_ 1 := constantI S_ 1 1#1
  fn_part2 (F := F) main_arg6 main_arg7 main_arg8 main_arg9 main_arg10 main_arg12 main_v30 main_v33 main_c_11

def fn {F : FTy → Type} [FloatOps F] (main_arg0 : FVec F S32768x32 .f32) (main_arg1 : IVec S32768 32) (main_arg2 : FVec F S32x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S160x256 .f32) (main_arg11 : FVec F S256 .f32) (main_arg12 : FVec F S4x64 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 16#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : IVec S32767 32 := (extractStridedSlice S32767 ![1] · slices_S32768_S32767_1) main_arg1
  let main_v7 : IVec S32767 32 := (extractStridedSlice S32767 ![0] · slices_S32768_S32767_0) main_arg1
  let main_v8 : IVec S32767 1 := cmpi .sge main_v6 main_v7
  let main_c_2 : IVec S_ 1 := constantI S_ 1 1#1
  let main_v9 : IVec S_ 1 := (fun x v => Host.reduce IntOp.andi x v reducesTo_S32767_S_d0 h_S_) main_v8 main_c_2
  let main_v10 : IVec S_ 1 := andi main_v5 main_v9
  let main_v11 : FVec F S32768x32 .f32 := Host.absf main_arg0
  let main_cst : FVec F S_ .f32 := constant S_ .f32 0x7F800000#32
  let main_v12 : FVec F S32768x32 .f32 := broadcastInDim S32768x32 ![] bcast_S_S32768x32 main_cst
  let main_v13 : IVec S32768x32 1 := cmpf .olt main_v11 main_v12
  let main_c_3 : IVec S_ 1 := constantI S_ 1 1#1
  let main_v14 : IVec S_ 1 := (fun x v => Host.reduce IntOp.andi x v reducesTo_S32768x32_S_d0_1 h_S_) main_v13 main_c_3
  let main_v15 : IVec S_ 1 := andi main_v10 main_v14
  let main_v16 : FVec F S32x128 .f32 := Host.absf main_arg2
  let main_cst_4 : FVec F S_ .f32 := constant S_ .f32 0x7F800000#32
  fn_part1 (F := F) main_arg3 main_arg4 main_arg5 main_arg6 main_arg7 main_arg8 main_arg9 main_arg10 main_arg12 main_v15 main_v16 main_cst_4
-- ==== Kernel.lean ====
abbrev S32768x32 : Shape := ⟨2, ![32768, 32]⟩
abbrev S32768 : Shape := ⟨1, ![32768]⟩
abbrev S32x128 : Shape := ⟨2, ![32, 128]⟩
abbrev S128 : Shape := ⟨1, ![128]⟩
abbrev S128x128 : Shape := ⟨2, ![128, 128]⟩
abbrev S160x256 : Shape := ⟨2, ![160, 256]⟩
abbrev S256 : Shape := ⟨1, ![256]⟩
abbrev S4x64 : Shape := ⟨2, ![4, 64]⟩
abbrev S32768x1 : Shape := ⟨2, ![32768, 1]⟩
abbrev S1x128 : Shape := ⟨2, ![1, 128]⟩
abbrev S1x256 : Shape := ⟨2, ![1, 256]⟩
abbrev S32768x4 : Shape := ⟨2, ![32768, 4]⟩
abbrev S8192x32 : Shape := ⟨2, ![8192, 32]⟩
abbrev S8192x1 : Shape := ⟨2, ![8192, 1]⟩
abbrev S8192x4 : Shape := ⟨2, ![8192, 4]⟩
abbrev S32x4 : Shape := ⟨2, ![32, 4]⟩
abbrev S128x4 : Shape := ⟨2, ![128, 4]⟩
abbrev S1x4 : Shape := ⟨2, ![1, 4]⟩
abbrev S16x4 : Shape := ⟨2, ![16, 4]⟩
abbrev S1x16 : Shape := ⟨2, ![1, 16]⟩
abbrev S160x64 : Shape := ⟨2, ![160, 64]⟩
abbrev S1x64 : Shape := ⟨2, ![1, 64]⟩
abbrev S160x1 : Shape := ⟨2, ![160, 1]⟩
abbrev S1x1 : Shape := ⟨2, ![1, 1]⟩
abbrev S160x4 : Shape := ⟨2, ![160, 4]⟩
abbrev S8192x128 : Shape := ⟨2, ![8192, 128]⟩
abbrev S4 : Shape := ⟨1, ![4]⟩
abbrev S8192x16 : Shape := ⟨2, ![8192, 16]⟩
abbrev S16 : Shape := ⟨1, ![16]⟩
abbrev S16x16 : Shape := ⟨2, ![16, 16]⟩
abbrev S16x1 : Shape := ⟨2, ![16, 1]⟩
abbrev S16x5 : Shape := ⟨2, ![16, 5]⟩
abbrev S8192x5 : Shape := ⟨2, ![8192, 5]⟩

abbrev nBuf : Space → Nat
  | .hbm => 20
  | .vmem => 32
  | .smem => 0
  | _ => 0

abbrev bufTy : (tb : Table) → Fin (tcTables nBuf tb) → BufTy
  | .hbm, ⟨0, _⟩ => ⟨S32768x32, .f32⟩
  | .hbm, ⟨1, _⟩ => ⟨S32768, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S160x256, .f32⟩
  | .hbm, ⟨11, _⟩ => ⟨S256, .f32⟩
  | .hbm, ⟨12, _⟩ => ⟨S4x64, .f32⟩
  | .hbm, ⟨13, _⟩ => ⟨S32768x1, .i32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x256, .f32⟩
  | .hbm, ⟨19, _⟩ => ⟨S32768x4, .f32⟩
  | .local _ .vmem, ⟨0, _⟩ => ⟨S8192x32, .f32⟩
  | .local _ .vmem, ⟨1, _⟩ => ⟨S8192x32, .f32⟩
  | .local _ .vmem, ⟨2, _⟩ => ⟨S8192x1, .i32⟩
  | .local _ .vmem, ⟨3, _⟩ => ⟨S8192x1, .i32⟩
  | .local _ .vmem, ⟨4, _⟩ => ⟨S32x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S160x256, .f32⟩
  | .local _ .vmem, ⟨13, _⟩ => ⟨S1x256, .f32⟩
  | .local _ .vmem, ⟨14, _⟩ => ⟨S4x64, .f32⟩
  | .local _ .vmem, ⟨15, _⟩ => ⟨S8192x4, .f32⟩
  | .local _ .vmem, ⟨16, _⟩ => ⟨S8192x4, .f32⟩
  | .local _ .vmem, ⟨17, _⟩ => ⟨S32x4, .f32⟩
  | .local _ .vmem, ⟨18, _⟩ => ⟨S128x4, .f32⟩
  | .local _ .vmem, ⟨19, _⟩ => ⟨S1x4, .f32⟩
  | .local _ .vmem, ⟨20, _⟩ => ⟨S16x4, .f32⟩
  | .local _ .vmem, ⟨21, _⟩ => ⟨S1x16, .f32⟩
  | .local _ .vmem, ⟨22, _⟩ => ⟨S1x4, .f32⟩
  | .local _ .vmem, ⟨23, _⟩ => ⟨S32x128, .f32⟩
  | .local _ .vmem, ⟨24, _⟩ => ⟨S32x128, .f32⟩
  | .local _ .vmem, ⟨25, _⟩ => ⟨S128x128, .f32⟩
  | .local _ .vmem, ⟨26, _⟩ => ⟨S128x128, .f32⟩
  | .local _ .vmem, ⟨27, _⟩ => ⟨S128x4, .f32⟩
  | .local _ .vmem, ⟨28, _⟩ => ⟨S128x4, .f32⟩
  | .local _ .vmem, ⟨29, _⟩ => ⟨S32x4, .f32⟩
  | .local _ .vmem, ⟨30, _⟩ => ⟨S32x4, .f32⟩
  | .local _ .vmem, ⟨31, _⟩ => ⟨S128x128, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_scratch13 : Ref sig .tc := ⟨.vmem, 30, rfl⟩
abbrev cc0_scratch14 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S160x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8192x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F]
-- ==== ReferenceIdeal.lean ====
abbrev S32768x32 : Shape := ⟨2, ![32768, 32]⟩
abbrev S32768 : Shape := ⟨1, ![32768]⟩
abbrev S32x128 : Shape := ⟨2, ![32, 128]⟩
abbrev S128 : Shape := ⟨1, ![128]⟩
abbrev S128x128 : Shape := ⟨2, ![128, 128]⟩
abbrev S160x256 : Shape := ⟨2, ![160, 256]⟩
abbrev S256 : Shape := ⟨1, ![256]⟩
abbrev S4x64 : Shape := ⟨2, ![4, 64]⟩
abbrev S32768x128 : Shape := ⟨2, ![32768, 128]⟩
abbrev S1x128 : Shape := ⟨2, ![1, 128]⟩
abbrev S_ : Shape := ⟨0, ![]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S32769x128 : Shape := ⟨2, ![32769, 128]⟩
abbrev S32768x1 : Shape := ⟨2, ![32768, 1]⟩
abbrev S32768x160 : Shape := ⟨2, ![32768, 160]⟩
abbrev S32768x256 : Shape := ⟨2, ![32768, 256]⟩
abbrev S1x256 : Shape := ⟨2, ![1, 256]⟩
abbrev S32768x4x1x64 : Shape := ⟨4, ![32768, 4, 1, 64]⟩
abbrev S1x4x64x1 : Shape := ⟨4, ![1, 4, 64, 1]⟩
abbrev S4x64x1 : Shape := ⟨3, ![4, 64, 1]⟩
abbrev S4x32768x1x1 : Shape := ⟨4, ![4, 32768, 1, 1]⟩
abbrev S32768x4x1x1 : Shape := ⟨4, ![32768, 4, 1, 1]⟩
abbrev S32768x4 : Shape := ⟨2, ![32768, 4]⟩

abbrev nBuf : Space → Nat
  | .hbm => 92
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S32768, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S160x256, .f32⟩
  | .hbm, ⟨11, _⟩ => ⟨S256, .f32⟩
  | .hbm, ⟨12, _⟩ => ⟨S4x64, .f32⟩
  | .hbm, ⟨13, _⟩ => ⟨S32768x128, .f32⟩
  | .hbm, ⟨14, _⟩ => ⟨S1x128, .f32⟩
  | .hbm, ⟨15, _⟩ => ⟨S32768x128, .f32⟩
  | .hbm, ⟨16, _⟩ => ⟨S32768x128, .f32⟩
  | .hbm, ⟨17, _⟩ => ⟨S_, .f32⟩
  | .hbm, ⟨18, _⟩ => ⟨S32768x128, .f32⟩
  | .hbm, ⟨19, _⟩ => ⟨S32768x128, .f32⟩
  | .hbm, ⟨20, _⟩ => ⟨S32768x128, .f32⟩
  | .hbm, ⟨21, _⟩ => ⟨S1x128, .f32⟩
  | .hbm, ⟨22, _⟩ => ⟨S32768x128, .f32⟩
  | .hbm, ⟨23, _⟩ => ⟨S32768x128, .f32⟩
  | .hbm, ⟨24, _⟩ => ⟨S_, .f32⟩
  | .hbm, ⟨25, _⟩ => ⟨S32768x128, .f32⟩
  | .hbm, ⟨26, _⟩ => ⟨S32768x128, .f32⟩
  | .hbm, ⟨27, _⟩ => ⟨S32768x128, .f32⟩
  | .hbm, ⟨28, _⟩ => ⟨S1x128, .f32⟩
  | .hbm, ⟨29, _⟩ => ⟨S32768x128, .f32⟩
  | .hbm, ⟨30, _⟩ => ⟨S32768x128, .f32⟩
  | .hbm, ⟨31, _⟩ => ⟨S_, .f32⟩
  | .hbm, ⟨32, _⟩ => ⟨S_, .f32⟩
  | .hbm, ⟨33, _⟩ => ⟨S32768x128, .f32⟩
  | .hbm, ⟨34, _⟩ => ⟨S1x32768, .i32⟩
  | .hbm, ⟨35, _⟩ => ⟨S16, .i32⟩
  | .hbm, ⟨36, _⟩ => ⟨S16x1, .i32⟩
  | .hbm, ⟨37, _⟩ => ⟨S16x32768, .i32⟩
  | .hbm, ⟨38, _⟩ => ⟨S16x32768, .i32⟩
  | .hbm, ⟨39, _⟩ => ⟨S16x32768, .i1⟩
  | .hbm, ⟨40, _⟩ => ⟨S16x32768, .i32⟩
  | .hbm, ⟨41, _⟩ => ⟨S_, .i32⟩
  | .hbm, ⟨42, _⟩ => ⟨S16, .i32⟩
  | .hbm, ⟨43, _⟩ => ⟨S_, .f32⟩
  | .hbm, ⟨44, _⟩ => ⟨S1x128, .f32⟩
  | .hbm, ⟨45, _⟩ => ⟨S32769x128, .f32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S32768x1, .i32⟩
  | .hbm, ⟨54, _⟩ => ⟨S32768, .i32⟩
  | .hbm, ⟨55, _⟩ => ⟨S_, .i32⟩
  | .hbm, ⟨56, _⟩ => ⟨S32768, .i32⟩
  | .hbm, ⟨57, _⟩ => ⟨S32768, .i1⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S32768, .i32⟩
  | .hbm, ⟨62, _⟩ => ⟨S32768x1, .i32⟩
  | .hbm, ⟨63, _⟩ => ⟨S32768x128, .f32⟩
  | .hbm, ⟨64, _⟩ => ⟨S32768, .i32⟩
  | .hbm, ⟨65, _⟩ => ⟨S32768, .i32⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .f32⟩
  | .hbm, ⟨70, _⟩ => ⟨S32768x128, .f32⟩
  | .hbm, ⟨71, _⟩ => ⟨S32768x1, .f32⟩
  | .hbm, ⟨72, _⟩ => ⟨S32768x128, .f32⟩
  | .hbm, ⟨73, _⟩ => ⟨S32768x128, .f32⟩
  | .hbm, ⟨74, _⟩ => ⟨S32768x128, .f32⟩
  | .hbm, ⟨75, _⟩ => ⟨S1x128, .f32⟩
  | .hbm, ⟨76, _⟩ => ⟨S32768x128, .f32⟩
  | .hbm, ⟨77, _⟩ => ⟨S32768x128, .f32⟩
  | .hbm, ⟨78, _⟩ => ⟨S32768x160, .f32⟩
  | .hbm, ⟨79, _⟩ => ⟨S32768x256, .f32⟩
  | .hbm, ⟨80, _⟩ => ⟨S1x256, .f32⟩
  | .hbm, ⟨81, _⟩ => ⟨S32768x256, .f32⟩
  | .hbm, ⟨82, _⟩ => ⟨S32768x256, .f32⟩
  | .hbm, ⟨83, _⟩ => ⟨S32768x4x1x64, .f32⟩
  | .hbm, ⟨84, _⟩ => ⟨S1x4x64x1, .f32⟩
  | .hbm, ⟨85, _⟩ => ⟨S4x64x1, .f32⟩
  | .hbm, ⟨86, _⟩ => ⟨S4x32768x1x1, .f32⟩
  | .hbm, ⟨87, _⟩ => ⟨S32768x4x1x1, .f32⟩
  | .hbm, ⟨88, _⟩ => ⟨S_, .f32⟩
  | .hbm, ⟨89, _⟩ => ⟨S32768x4x1x1, .f32⟩
  | .hbm, ⟨90, _⟩ => ⟨S32768x4x1x1, .f32⟩
  | .hbm, ⟨91, _⟩ => ⟨S32768x4, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call2_call0_cst : Ref sig .tc := ⟨.hbm, 31, rfl⟩
abbrev main_call2_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_c_0 : Ref sig .tc := ⟨.hbm, 46, rfl⟩
abbrev main_v25 : Ref sig .tc := ⟨.hbm, 47, rfl⟩
abbrev main_v26 : Ref sig .tc := ⟨.hbm, 48, rfl⟩
abbrev main_c_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_2 : Ref sig .tc := ⟨.hbm, 55, rfl⟩
abbrev main_v32 : Ref sig .tc := ⟨.hbm, 56, rfl⟩
abbrev main_v33 : Ref sig .tc := ⟨.hbm, 57, rfl⟩
abbrev main_c_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_5 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Proof.Reals.lean ====
/- Arrays of extended reals that hold real numbers: the vocabulary of the value proof, and the two facts about sums
   and differences that the splitting of a number into two parts comes down to. -/
module

public import Idealize.ShloMosaic.Lib.Pointwise

@[expose] public section

noncomputable section

namespace Cert.Value

open Idealize.ShloMosaic
open scoped BigOperators

/-- The two-axis array `v` holds the real numbers `r`. -/
def Holds {a b : ℕ} {φ : FTy} (v : FVec Ideal ⟨2, ![a, b]⟩ φ) (r : Fin a → Fin b → ℝ) : Prop :=
  ∀ i j, v (ix2 i j) = ((r i j : ℝ) : EReal)

/-- Two-axis arrays that agree at every row and column are equal. -/
theorem ext_rows {a b : ℕ} {φ : FTy} {u v : FVec Ideal ⟨2, ![a, b]⟩ φ} (h : ∀ i j, u (ix2 i j) = v (ix2 i j)) : u = v := by
  funext x
  have e : x = ix2 (x 0) (x 1) := by
    funext k
    match k with
    | ⟨0, _⟩ => rfl
    | ⟨1, _⟩ => rfl
  rw [e]
  exact h _ _

/-- A finite sum of real numbers is the same sum in the extended reals. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a real number and zero is the same in the extended reals. -/
theorem max_zero_coe (x : ℝ) : max ((x : ℝ) : EReal) 0 = ((max x 0 : ℝ) : EReal) := by
  rcases le_total x 0 with h | h
  · rw [max_eq_right h, max_eq_right (by exact_mod_cast h)]; rfl
  · rw [max_eq_left h, max_eq_left (by exact_mod_cast h)]

/-- A sum of products of real numbers, in the extended reals. -/
theorem sum_mul_coe {ι : Type*} (s : Finset ι) (f g : ι → ℝ) :
    (∑ i ∈ s, ((f i : ℝ) : EReal) * ((g i : ℝ) : EReal)) = ((∑ i ∈ s, f i * g i : ℝ) : EReal) := by
  simp only [← EReal.coe_mul, sum_coe]

/-- A real number less itself is zero. -/
theorem sub_self_coe (x : ℝ) : ((x : ℝ) : EReal) - ((x : ℝ) : EReal) = 0 := by
  rw [← EReal.coe_sub, sub_self]; rfl

end Cert.Value

end
-- ==== Proof.Encode.lean ====
/- What the kernel's block computes for each row before any running sum: the two dense layers with a maximum, and the
   product with the folded matrix. The kernel takes each product in three parts, of a number's leading half and the
   rest; over the reals the rest is zero and the three parts add up to the plain product. -/
module

public import proofs.«01_k».proof.Proof.Gen.KernelIdeal.Skeleton
public import proofs.«01_k».proof.Proof.Reals

@[expose] public section

noncomputable section

namespace Cert.Value

open Idealize.ShloMosaic Cert.KernelIdeal Cert.KernelIdeal.Gen
open scoped BigOperators

/-- A dense layer over the reals, of the rows `x i`: `x · w + b`, then the maximum with zero. -/
def layer {ι : Type} {m p : ℕ} (x : ι → Fin m → ℝ) (w : Fin m → Fin p → ℝ) (b : Fin p → ℝ) (i : ι) (j : Fin p) : ℝ :=
  max ((∑ k, x i k * w k j) + b j) 0

/-- A product of real matrices. -/
def mmul {ι : Type} {m p : ℕ} (x : ι → Fin m → ℝ) (w : Fin m → Fin p → ℝ) (i : ι) (j : Fin p) : ℝ :=
  ∑ k, x i k * w k j

/-- The product with the second layer's weights, before its offset. -/
theorem pay36_holds {x : FVec Ideal S8192x32 .f32} {w1 w1' : FVec Ideal S32x128 .f32} {b1 : FVec Ideal S1x128 .f32}
    {w2 w2' : FVec Ideal S128x128 .f32} {X W1 B1 W2} (hx : Holds x X) (h1 : Holds w1 W1) (h1' : Holds w1' fun _ _ => 0)
    (hb : Holds b1 B1) (h2 : Holds w2 W2) (h2' : Holds w2' fun _ _ => 0) :
    Holds (k0_pay36 x w1 w1' b1 w2 w2') (mmul (layer X W1 (B1 0)) W2) := by
  intro i j
  have e0 : ((0 : ℝ) : EReal) = 0 := rfl
  pointwise [k0_pay36, k0_pay34, k0_pay35, dot_S8192x32_S32x128_S8192x128_1_0_0_1_n_n, dot_S8192x128_S128x128_S8192x128_1_0_0_1_n_n]
  simp only [hx _ _, h1 _ _, h1' _ _, hb _ _, h2 _ _, h2' _ _, sub_self_coe, e0, mul_zero, zero_mul, Finset.sum_const_zero, add_zero,
    sum_mul_coe, ← EReal.coe_add, max_zero_coe]
  rfl

/-- The block's row values: two layers, then the product with the folded matrix. -/
theorem pay38_holds {v33 v36 : FVec Ideal S8192x128 .f32} {c c' : FVec Ideal S128x4 .f32} {P Q C} (hp : Holds v33 P) (hq : Holds v36 Q)
    (hc : Holds c C) (hc' : Holds c' fun _ _ => 0) :
    Holds (k0_pay38 v33 v36 c c') (mmul (fun i j => max (P i j + Q i j) 0) C) := by
  intro i j
  have e0 : ((0 : ℝ) : EReal) = 0 := rfl
  pointwise [k0_pay38, dot_S8192x128_S128x4_S8192x4_1_0_0_1_n_n]
  simp only [hp _ _, hq _ _, hc _ _, hc' _ _, sub_self_coe, e0, mul_zero, zero_mul, Finset.sum_const_zero, add_zero,
    sum_mul_coe, ← EReal.coe_add, max_zero_coe]
  rfl

end Cert.Value

end
-- ==== Proof.Scan.lean ====
/- The running sum over the rows of one block: the kernel cuts the block into 64 chunks of 128 rows, sums within a chunk
   by a triangular product and carries the sum of the chunks before it. Stated once for every chunk. -/
module

public import proofs.«01_k».proof.Proof.Encode

@[expose] public section

noncomputable section

namespace Cert.Value

open Idealize.ShloMosaic Cert.KernelIdeal Cert.KernelIdeal.Gen
open scoped BigOperators

/-- Rows `128 k … 128 k + 127` lie in a block of 8192 rows. -/
theorem chunk_slices (k : ℕ) : S8192x4.Slices ![128 * (k % 64), 0] S128x4 := by
  refine ⟨rfl, fun a => ?_⟩
  have := Nat.mod_lt k (show 0 < 64 by decide)
  match a with
  | ⟨0, _⟩ => show 128 * (k % 64) + 128 ≤ 8192; omega
  | ⟨1, _⟩ => show 0 + 4 ≤ 4; omega

/-- Chunk `k` of a block. -/
def chunk (z : FVec Ideal S8192x4 .f32) (k : ℕ) : FVec Ideal S128x4 .f32 :=
  extractStridedSlice S128x4 ![128 * (k % 64), 0] z (chunk_slices k)

/-- The sum carried into chunk `k`: what was carried into the block and the chunks before `k`. -/
def carry (z : FVec Ideal S8192x4 .f32) (o : FVec Ideal S1x4 .f32) : ℕ → FVec Ideal S1x4 .f32
  | 0 => o
  | k + 1 => addf (carry z o k) (shapeCast S1x4 (multiReduction .add [0] S4 (chunk z k) 0x00000000#32 reduces_S128x4_S4 (.inl rfl) rfl) shapeCasts_S4_S1x4)

/-- The running sums over chunk `k`, from the triangular matrix `t`. -/
def scanChunk (t : FVec Ideal S128x128 .f32) (z : FVec Ideal S8192x4 .f32) (o : FVec Ideal S1x4 .f32) (k : ℕ) : FVec Ideal S128x4 .f32 :=
  addf (addf (matmul dot_S128x128_S128x4_S128x4_1_0_0_1_n_n none t (extf .f32 (truncf .bf16 (chunk z k))) (constant S128x4 .f32 0x00000000#32))
      (matmul dot_S128x128_S128x4_S128x4_1_0_0_1_n_n none t (subf (chunk z k) (extf .f32 (truncf .bf16 (chunk z k)))) (constant S128x4 .f32 0x00000000#32)))
    (broadcastTo S128x4 (carry z o k) broadcasts_S1x4_S128x4)

/-- The running sums over a block: the 64 chunks one under the other. -/
def scan (t : FVec Ideal S128x128 .f32) (z : FVec Ideal S8192x4 .f32) (o : FVec Ideal S1x4 .f32) : FVec Ideal S8192x4 .f32 :=
  concatenate S8192x4 0 (List.ofFn fun k : Fin 64 => (⟨S128x4, scanChunk t z o k.val⟩ : (s : Shape) × (s.Idx → Ideal .f32)))
    concatenates_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S128x4_S8192x4_d0

/-- A chunk holds the block's rows from `128 k` on. -/
theorem chunk_apply (z : FVec Ideal S8192x4 .f32) (k : ℕ) (hk : k < 64) (i : Fin 128) (j : Fin 4) :
    chunk z k (ix2 i j) = z (ix2 ⟨128 * k + i.val, by omega⟩ j) := by
  pointwise [chunk]
  congr 2
  apply Fin.ext
  show 128 * (k % 64) + i.val = 128 * k + i.val
  rw [Nat.mod_eq_of_lt hk]

variable {z : FVec Ideal S8192x4 .f32} {o : FVec Ideal S1x4 .f32} {t : FVec Ideal S128x128 .f32} {Z : ℕ → Fin 4 → ℝ} {n : ℕ}

/-- A chunk of a block that holds the rows from `n` on. -/
theorem chunk_holds (hz : Holds z fun i j => Z (n + i.val) j) (k : ℕ) (hk : k < 64) :
    Holds (chunk z k) fun i j => Z (n + 128 * k + i.val) j := by
  intro i j
  rw [chunk_apply z k hk, hz]
  show ((Z (n + (128 * k + i.val)) j : ℝ) : EReal) = _
  rw [← Nat.add_assoc]

/-- The carried sum is the sum of every row before the chunk. -/
theorem carry_holds (hz : Holds z fun i j => Z (n + i.val) j) (ho : Holds o fun _ j => ∑ r ∈ Finset.range n, Z r j) :
    ∀ k, k ≤ 64 → Holds (carry z o k) fun _ j => ∑ r ∈ Finset.range (n + 128 * k), Z r j
  | 0, _ => ho
  | k + 1, hk => by
    have ih := carry_holds hz ho k (by omega)
    have hc := chunk_holds hz k (by omega)
    intro i j
    pointwise [carry]
    rw [ih]
    simp only [hc _ _, sum_coe, ← EReal.coe_add]
    rw [Nat.mul_succ, ← Nat.add_assoc, Finset.sum_range_add (fun r => Z r j) (n + 128 * k) 128, Finset.sum_range (fun x => Z (n + 128 * k + x) j)]

/-- The triangular matrix of ones on and below the diagonal picks the rows up to a row's own. -/
theorem tri_sum (f : ℕ → ℝ) (i : Fin 128) :
    (∑ k : Fin 128, (if k.val ≤ i.val then (1 : ℝ) else 0) * f k.val) = ∑ r ∈ Finset.range (i.val + 1), f r := by
  simp only [ite_mul, one_mul, zero_mul]
  rw [← Finset.sum_range (fun k => if k ≤ i.val then f k else 0), ← Finset.sum_filter]
  refine Finset.sum_congr ?_ fun _ _ => rfl
  ext r
  simp only [Finset.mem_filter, Finset.mem_range]
  omega

/-- One chunk's running sums. -/
theorem scanChunk_holds (ht : Holds t fun i k => if k.val ≤ i.val then 1 else 0) (hz : Holds z fun i j => Z (n + i.val) j)
    (ho : Holds o fun _ j => ∑ r ∈ Finset.range n, Z r j) (k : ℕ) (hk : k < 64) :
    Holds (scanChunk t z o k) fun i j => ∑ r ∈ Finset.range (n + 128 * k + i.val + 1), Z r j := by
  have hc := chunk_holds hz k hk
  have hs := carry_holds hz ho k hk.le
  intro i j
  have e0 : ((0 : ℝ) : EReal) = 0 := rfl
  pointwise [scanChunk, dot_S128x128_S128x4_S128x4_1_0_0_1_n_n]
  simp only [ht _ _, hc _ _, hs _ _, sub_self_coe, mul_zero, Finset.sum_const_zero, add_zero, sum_mul_coe, ← EReal.coe_add]
  rw [tri_sum (fun r => Z (n + 128 * k + r) j) i, Nat.add_assoc (n + 128 * k), Finset.sum_range_add (fun r => Z r j) (n + 128 * k) (i.val + 1), add_comm]

/-- The block's running sums: row `i` of the block that starts at row `n` holds the sum of rows `0 … n + i`. -/
theorem scan_holds (ht : Holds t fun i k => if k.val ≤ i.val then 1 else 0) (hz : Holds z fun i j => Z (n + i.val) j)
    (ho : Holds o fun _ j => ∑ r ∈ Finset.range n, Z r j) :
    Holds (scan t z o) fun i j => ∑ r ∈ Finset.range (n + i.val + 1), Z r j := by
  intro i j
  have hq : i.val / 128 < 64 := by omega
  unfold scan
  refine (concatenate_ofFn_apply (t := S8192x4) (s₁ := S128x4) 0 (fun k : Fin 64 => scanChunk t z o k.val) _ rfl 128 rfl (ix2 i j) ⟨i.val / 128, hq⟩ rfl
    (ix2 ⟨i.val % 128, Nat.mod_lt _ (by decide)⟩ j) rfl ?_).trans ?_
  · intro b hb
    match b with
    | ⟨0, _⟩ => exact absurd rfl hb
    | ⟨1, _⟩ => rfl
  · rw [scanChunk_holds ht hz ho _ hq]
    have := Nat.div_add_mod i.val 128
    have e : n + 128 * (i.val / 128) + i.val % 128 + 1 = n + i.val + 1 := by omega
    show ((∑ r ∈ Finset.range (n + 128 * (i.val / 128) + i.val % 128 + 1), Z r j : ℝ) : EReal) = _
    rw [e]

end Cert.Value

end
-- ==== Proof.Table.lean ====
/- The kernel's table over the 16 segments: for each segment, the sum of the row values (and the number of rows) of the
   smaller segments, and its use for one block's result. -/
module

public import proofs.«01_k».proof.Proof.Scan

@[expose] public section

noncomputable section

namespace Cert.Value

open Idealize.ShloMosaic Cert.KernelIdeal Cert.KernelIdeal.Gen
open scoped BigOperators

/-- The block's column of segment numbers: the numbers `D` from row `n` on. -/
def HoldsIds {a : ℕ} (v : IVec ⟨2, ![a, 1]⟩ 32) (D : ℕ → ℕ) : Prop :=
  ∀ i : Fin a, v (ix2 i 0) = BitVec.ofNat 32 (D i.val)

/-- Two small numbers are equal as words just when they are equal. -/
theorem ofNat_eq_iff {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    rwa [Nat.mod_eq_of_lt (by omega), Nat.mod_eq_of_lt (by omega)] at this
  · rintro rfl; rfl

/-- A small number's word, read as a signed number. -/
theorem toInt_ofNat {a : ℕ} (ha : a < 2 ^ 31) : (BitVec.ofNat 32 a).toInt = (a : ℤ) := by
  rw [BitVec.toInt_eq_toNat_cond, BitVec.toNat_ofNat, Nat.mod_eq_of_lt (by omega), if_pos (by omega)]

/-- A truth value widened to a word and read as a number: one or zero. -/
theorem indicator (p : Prop) [Decidable p] (b : BitVec 1) (hb : b = BitVec.ofBool (decide p)) :
    (FloatOps.sitofp .f32 (b.setWidth 32) : Ideal .f32) = ((if p then (1 : ℝ) else 0 : ℝ) : EReal) := by
  subst hb
  show (((((BitVec.ofBool (decide p)).setWidth 32).toInt : ℤ) : ℝ) : EReal) = _
  by_cases h : p <;> simp [h]

/-- Equality of small numbers' words. -/
theorem cmpi_eq_small {a b : ℕ} (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff, beq_iff_eq, decide_eq_true_iff, ofNat_eq_iff ha hb]

/-- "Greater than" of small numbers' words. -/
theorem cmpi_sgt_small {a b : ℕ} (ha : a < 2 ^ 31) (hb : b < 2 ^ 31) :
    IntOp.cmpi .sgt (BitVec.ofNat 32 a) (BitVec.ofNat 32 b) = BitVec.ofBool (decide (b < a)) := by
  unfold IntOp.cmpi
  simp only [BitVec.slt, toInt_ofNat ha, toInt_ofNat hb, Nat.cast_lt]

/-- "At least" of small numbers' words. -/
theorem cmpi_sge_small {a b : ℕ} (ha : a < 2 ^ 31) (hb : b < 2 ^ 31) :
    IntOp.cmpi .sge (BitVec.ofNat 32 a) (BitVec.ofNat 32 b) = BitVec.ofBool (decide (b ≤ a)) := by
  unfold IntOp.cmpi
  simp only [BitVec.sle, toInt_ofNat ha, toInt_ofNat hb, Nat.cast_le]

/-- The word of a row's number in the whole array: 8192 times the block's number plus the row's number in the block. -/
theorem row_word (k : ℕ) (i : ℕ) (h : 8192 * k + i < 2 ^ 31) :
    (FloatOps.sitofp .f32 (IntOp.addi (Scalar.muli (BitVec.ofNat 32 k) 8192#32) (BitVec.ofNat 32 i)) : Ideal .f32)
      = (((8192 * k + i : ℕ) : ℝ) : EReal) := by
  have e : IntOp.addi (Scalar.muli (BitVec.ofNat 32 k) 8192#32) (BitVec.ofNat 32 i) = BitVec.ofNat 32 (8192 * k + i) := by
    show BitVec.ofNat 32 k * BitVec.ofNat 32 8192 + BitVec.ofNat 32 i = _
    rw [← BitVec.ofNat_mul, ← BitVec.ofNat_add, Nat.mul_comm]
  rw [e]
  show ((((BitVec.ofNat 32 (8192 * k + i)).toInt : ℤ) : ℝ) : EReal) = _
  rw [toInt_ofNat h]
  norm_cast

/-- Rounding a count leaves it. -/
theorem round_count (n : ℕ) : Ideal.liftRound Ideal.roundHalfEven (((n : ℕ) : ℝ) : EReal) = (((n : ℕ) : ℝ) : EReal) := by
  rw [Ideal.liftRound_coe, Ideal.roundHalfEven]
  simp

/-- A sum against the indicator of one segment reads that segment. -/
theorem pick (d : ℕ) (hd : d < 16) (f : ℕ → ℝ) : (∑ s : Fin 16, (if d = s.val then (1 : ℝ) else 0) * f s.val) = f d := by
  rw [Finset.sum_eq_single (⟨d, hd⟩ : Fin 16)]
  · simp
  · intro b _ hb
    rw [if_neg, zero_mul]
    intro h; exact hb (Fin.ext h.symm)
  · simp

variable {v951 : IVec S8192x1 32} {D : ℕ → ℕ} {z : FVec Ideal S8192x4 .f32} {Z : Fin 8192 → Fin 4 → ℝ}

/-- Which segment each row of the block belongs to. -/
theorem pay246_holds (hd : HoldsIds v951 D) (hD : ∀ r, D r < 16) :
    Holds (k0_pay246 (F := Ideal) v951) fun i s => if D i.val = s.val then 1 else 0 := by
  intro i s
  have hs := hD i.val
  pointwise [k0_pay246]
  rw [hd i]
  exact indicator _ _ (cmpi_eq_small (by omega) (by omega))

/-- The sum of the row values of each segment within the block. -/
theorem pay247_holds (hd : HoldsIds v951 D) (hD : ∀ r, D r < 16) (hz : Holds z Z) :
    Holds (k0_pay247 z v951) fun s j => ∑ i : Fin 8192, (if D i.val = s.val then 1 else 0) * Z i j := by
  intro s j
  have h := pay246_holds hd hD
  pointwise [k0_pay247, dot_S8192x16_S8192x4_S16x4_0_0_1_1_n_n]
  simp only [h _ _, hz _ _, sub_self_coe, mul_zero, Finset.sum_const_zero, add_zero, sum_mul_coe]

/-- The number of rows of each segment within the block. -/
theorem pay248_holds (hd : HoldsIds v951 D) (hD : ∀ r, D r < 16) :
    Holds (k0_pay248 (F := Ideal) v951) fun _ s => ∑ i : Fin 8192, (if D i.val = s.val then 1 else 0) := by
  intro u s
  have h := pay246_holds hd hD
  pointwise [k0_pay248]
  simp only [h _ _, sum_coe]

/-- The strict order of the segments, as a matrix. -/
theorem pay249_holds : Holds (k0_pay249 (F := Ideal)) fun s s' => if s'.val < s.val then 1 else 0 := by
  intro s s'
  pointwise [k0_pay249]
  exact indicator _ _ (cmpi_sgt_small (by omega) (by omega))

/-- The triangular matrix of ones on and below the diagonal. -/
theorem pay33_holds : Holds (k0_pay33 (F := Ideal)) fun s s' => if s'.val ≤ s.val then 1 else 0 := by
  intro s s'
  pointwise [k0_pay33]
  exact indicator _ _ (cmpi_sge_small (by omega) (by omega))

variable {v966 : FVec Ideal S16x4 .f32} {v968 : FVec Ideal S1x16 .f32} {v973 : FVec Ideal S16x16 .f32}
  {P : Fin 16 → Fin 4 → ℝ} {Q : Fin 1 → Fin 16 → ℝ} {R : Fin 16 → Fin 16 → ℝ}

/-- The sums over the smaller segments: the order matrix times the segments' sums. -/
theorem pay250_holds (hp : Holds v966 P) (hr : Holds v973 R) : Holds (k0_pay250 v966 v973) (mmul R P) := by
  intro s j
  pointwise [k0_pay250, dot_S16x16_S16x4_S16x4_1_0_0_1_n_n]
  simp only [hp _ _, hr _ _, sum_mul_coe]
  rfl

/-- The counts over the smaller segments. -/
theorem pay251_holds (hq : Holds v968 Q) (hr : Holds v973 R) : Holds (k0_pay251 v968 v973) fun u s => ∑ s', Q u s' * R s s' := by
  intro u s
  pointwise [k0_pay251, dot_S1x16_S16x16_S1x16_1_0_0_1_n_n]
  simp only [hq _ _, hr _ _, sum_mul_coe]

/-- One block's result: the row's product with the first matrix, the mean of the row values over the rows since the row's
    segment began, and the constant row. -/
theorem pay252_apply {k : ℕ} (hk : k < 4) {v7 v8 : FVec Ideal S8192x32 .f32} {v950 : FVec Ideal S8192x4 .f32}
    {v958 : FVec Ideal S8192x16 .f32} {v977 : FVec Ideal S16x4 .f32} {v979 : FVec Ideal S1x16 .f32} {v1005 v1006 : FVec Ideal S32x4 .f32}
    (v1013 : FVec Ideal S1x4 .f32) {X : Fin 8192 → Fin 32 → ℝ} {A : Fin 32 → Fin 4 → ℝ} {S : Fin 8192 → Fin 4 → ℝ} {T : ℕ → Fin 4 → ℝ} {N : ℕ → ℕ}
    (h7 : Holds v7 X) (h8 : Holds v8 fun _ _ => 0) (h950 : Holds v950 S) (hD : ∀ r, D r < 16)
    (h958 : Holds v958 fun i s => if D i.val = s.val then 1 else 0)
    (hT : ∀ (s : Fin 16) (j : Fin 4), v977 (ix2 s j) + k0_pay250 v966 v973 (ix2 s j) = ((T s.val j : ℝ) : EReal))
    (hN : ∀ s : Fin 16, v979 (ix2 0 s) + k0_pay251 v968 v973 (ix2 0 s) = (((N s.val : ℕ) : ℝ) : EReal))
    (h5 : Holds v1005 A) (h6 : Holds v1006 fun _ _ => 0) (i : Fin 8192) (j : Fin 4) :
    k0_pay252 (BitVec.ofNat 32 k) v7 v8 v950 v958 v966 v968 v973 v977 v979 v1005 v1006 v1013 (ix2 i j)
      = ((mmul X A i j : ℝ) : EReal)
        + Ideal.div ((S i j - T (D i.val) j : ℝ) : EReal) ((((8192 * k + i.val : ℕ) : ℝ) + 1 - (N (D i.val) : ℝ) : ℝ) : EReal)
        + v1013 (ix2 0 j) := by
  have e0 : ((0 : ℝ) : EReal) = 0 := rfl
  have e1 : (1 : EReal) = ((1 : ℝ) : EReal) := rfl
  pointwise [k0_pay252, dot_S8192x16_S16x5_S8192x5_1_0_0_1_n_n, dot_S8192x32_S32x4_S8192x4_1_0_0_1_n_n]
  rw [row_word k i.val (by omega)]
  simp only [h7 _ _, h8 _ _, h950 _ _, h958 _ _, hT, hN, h5 _ _, h6 _ _, sub_self_coe, e0, mul_zero, zero_mul, Finset.sum_const_zero, add_zero,
    sum_mul_coe]
  rw [pick (D i.val) (hD _) (fun s => T s j), pick (D i.val) (hD _) (fun s => (N s : ℝ)), round_count, e1]
  simp only [← EReal.coe_add, ← EReal.coe_sub]
  rfl

end Cert.Value

end
-- ==== Proof.Setup.lean ====
/- What the kernel computes once, at its first block: the weights folded through the last product. -/
module

public import proofs.«01_k».proof.Proof.Table

@[expose] public section

noncomputable section

namespace Cert.Value

open Idealize.ShloMosaic Cert.KernelIdeal Cert.KernelIdeal.Gen
open scoped BigOperators

/-- The word `0x3E000000` denotes one eighth. -/
theorem eighth : Ideal.ofBits .f32 0x3E000000#32 = ((1 / 8 : ℝ) : EReal) := by
  simp [Ideal.ofBits, Ideal.ieee, -EReal.coe_mul]
  norm_num

/-- The word `0x41000000` denotes eight. -/
theorem eight : Ideal.ofBits .f32 0x41000000#32 = ((8 : ℝ) : EReal) := by
  simp [Ideal.ofBits, Ideal.ieee, -EReal.coe_mul]
  norm_num

/-- Column `64 h + d` of the 256 columns: lane `d` of head `h`. -/
def col (h : Fin 4) (d : Fin 64) : Fin 256 := ⟨64 * h.val + d.val, by omega⟩

/-- The last two products folded: row `r` against head `h`, times one eighth. -/
def fold (K : Fin 160 → Fin 256 → ℝ) (Wq : Fin 4 → Fin 64 → ℝ) (r : Fin 160) (h : Fin 4) : ℝ :=
  (∑ d, K r (col h d) * Wq h d) * (1 / 8)

variable {K : Fin 160 → Fin 256 → ℝ} {Wq : Fin 4 → Fin 64 → ℝ}

/-- The folded weights, from the four heads' column blocks. -/
theorem pay8_holds {k0 k1 k2 k3 : FVec Ideal S160x64 .f32} {q0 q1 q2 q3 : FVec Ideal S1x64 .f32}
    (hk0 : Holds k0 fun r d => K r (col 0 d)) (hk1 : Holds k1 fun r d => K r (col 1 d))
    (hk2 : Holds k2 fun r d => K r (col 2 d)) (hk3 : Holds k3 fun r d => K r (col 3 d))
    (hq0 : Holds q0 fun _ d => Wq 0 d) (hq1 : Holds q1 fun _ d => Wq 1 d) (hq2 : Holds q2 fun _ d => Wq 2 d) (hq3 : Holds q3 fun _ d => Wq 3 d) :
    Holds (k0_pay8 k0 q0 k1 q1 k2 q2 k3 q3) (fold K Wq) := by
  intro r h
  pointwise [k0_pay8, dot_S160x64_S1x64_S160x1_1_1_0_0_n_n]
  simp only [hk0 _ _, hk1 _ _, hk2 _ _, hk3 _ _, hq0 _ _, hq1 _ _, hq2 _ _, hq3 _ _, sum_mul_coe, eighth]
  rcases (show h = 0 ∨ h = 1 ∨ h = 2 ∨ h = 3 by omega) with rfl | rfl | rfl | rfl <;> exact (EReal.coe_mul _ _).symm

variable {v1056 : FVec Ideal S160x4 .f32} {V : Fin 160 → Fin 4 → ℝ} {v1062 v1064 : FVec Ideal S128x128 .f32} {Wr W3 : Fin 128 → Fin 128 → ℝ}

/-- The folded weights of the row itself: the first 32 rows. -/
theorem pay9_holds (hv : Holds v1056 V) : Holds (k0_pay9 v1056) fun r h => V ⟨r.val, by omega⟩ h := by
  intro r h
  pointwise [k0_pay9]
  exact hv _ _

/-- The folded weights of the mean: the last 128 rows. -/
theorem pay10_holds (hv : Holds v1056 V) : Holds (k0_pay10 v1056) fun r h => V ⟨32 + r.val, by omega⟩ h := by
  intro r h
  pointwise [k0_pay10]
  exact hv _ _

/-- Folded through the second product. -/
theorem pay11_holds (hv : Holds v1056 V) (hw : Holds v1062 Wr) :
    Holds (k0_pay11 v1056 v1062) (mmul Wr fun r h => V ⟨32 + r.val, by omega⟩ h) := by
  intro r h
  pointwise [k0_pay11, dot_S128x128_S128x4_S128x4_1_0_0_1_n_n]
  simp only [hw _ _, pay10_holds hv _ _, sum_mul_coe]
  rfl

/-- Folded through the third layer. -/
theorem pay12_holds (hv : Holds v1056 V) (hw : Holds v1062 Wr) (h3 : Holds v1064 W3) :
    Holds (k0_pay12 v1056 v1062 v1064) (mmul W3 (mmul Wr fun r h => V ⟨32 + r.val, by omega⟩ h)) := by
  intro r h
  pointwise [k0_pay12, dot_S128x128_S128x4_S128x4_1_0_0_1_n_n]
  simp only [h3 _ _, pay11_holds hv hw _ _, sum_mul_coe]
  rfl

/-- The constant row: the offsets folded through, the key offsets against each head in the extended reals. -/
theorem pay15_apply {b3 br : FVec Ideal S1x128 .f32} {B3 Br : Fin 1 → Fin 128 → ℝ} (hv : Holds v1056 V) (hw : Holds v1062 Wr) (hb3 : Holds b3 B3)
    (hbr : Holds br Br) (k q : Fin 4 → FVec Ideal S1x64 .f32) (h : Fin 4) :
    k0_pay15 (k0_pay4 (q 0) (k 0)) (k0_pay5 (q 1) (k 1)) (k0_pay6 (q 2) (k 2)) (k0_pay7 (q 3) (k 3)) v1056 v1062 b3 br (ix2 0 h)
      = ((∑ l, B3 0 l * mmul Wr (fun r h => V ⟨32 + r.val, by omega⟩ h) l h + ∑ l, Br 0 l * V ⟨32 + l.val, by omega⟩ h : ℝ) : EReal)
        + (∑ d, k h (ix2 0 d) * q h (ix2 0 d)) * ((1 / 8 : ℝ) : EReal) := by
  pointwise [k0_pay15, k0_pay4, k0_pay5, k0_pay6, k0_pay7, dot_S1x128_S128x4_S1x4_1_0_0_1_n_n, dot_S1x64_S1x64_S1x1_1_1_0_0_n_n]
  simp only [hb3 _ _, hbr _ _, pay11_holds hv hw _ _, pay10_holds hv _ _, sum_mul_coe, eighth, ← EReal.coe_add]
  rcases (show h = 0 ∨ h = 1 ∨ h = 2 ∨ h = 3 by omega) with rfl | rfl | rfl | rfl <;> rfl

/-- A number's leading half is the number. -/
theorem pay28_holds {v : FVec Ideal S128x4 .f32} {C : Fin 128 → Fin 4 → ℝ} (h : Holds v C) : Holds (k0_pay28 v) C := by
  intro i j; pointwise [k0_pay28, k0_pay26]; exact h i j
/-- What is left of a real number after its leading half is zero. -/
theorem pay29_holds {v : FVec Ideal S128x4 .f32} {C : Fin 128 → Fin 4 → ℝ} (h : Holds v C) : Holds (k0_pay29 (k0_pay27 v)) fun _ _ => 0 := by
  intro i j; pointwise [k0_pay29, k0_pay27, k0_pay26]; rw [h, sub_self_coe]; rfl
/-- The same for the row's own folded weights. -/
theorem pay31_holds {v : FVec Ideal S32x4 .f32} {C : Fin 32 → Fin 4 → ℝ} (h : Holds v C) : Holds (k0_pay31 v) C := by
  intro i j; pointwise [k0_pay31, k0_pay30]; exact h i j
/-- The same for the row's own folded weights. -/
theorem pay32_holds {v : FVec Ideal S32x4 .f32} {C : Fin 32 → Fin 4 → ℝ} (h : Holds v C) : Holds (k0_pay32 v) fun _ _ => 0 := by
  intro i j; pointwise [k0_pay32, k0_pay30]; rw [h, sub_self_coe]; rfl
/-- The same for the first layer's weights. -/
theorem pay21_holds {v : FVec Ideal S32x128 .f32} {C : Fin 32 → Fin 128 → ℝ} (h : Holds v C) : Holds (k0_pay21 v) C := by
  intro i j; pointwise [k0_pay21, k0_pay20]; exact h i j
/-- The same for the first layer's weights. -/
theorem pay22_holds {v : FVec Ideal S32x128 .f32} {C : Fin 32 → Fin 128 → ℝ} (h : Holds v C) : Holds (k0_pay22 v) fun _ _ => 0 := by
  intro i j; pointwise [k0_pay22, k0_pay20]; rw [h, sub_self_coe]; rfl
/-- The same for the second layer's weights. -/
theorem pay24_holds {v : FVec Ideal S128x128 .f32} {C : Fin 128 → Fin 128 → ℝ} (h : Holds v C) : Holds (k0_pay24 v) C := by
  intro i j; pointwise [k0_pay24, k0_pay23]; exact h i j
/-- The same for the second layer's weights. -/
theorem pay25_holds {v : FVec Ideal S128x128 .f32} {C : Fin 128 → Fin 128 → ℝ} (h : Holds v C) : Holds (k0_pay25 v) fun _ _ => 0 := by
  intro i j; pointwise [k0_pay25, k0_pay23]; rw [h, sub_self_coe]; rfl
/-- The running tables start at zero. -/
theorem pay16_holds : Holds (k0_pay16 (F := Ideal)) fun _ _ => 0 := by
  intro i j; pointwise [k0_pay16]; rfl
/-- The running counts start at zero. -/
theorem pay18_holds : Holds (k0_pay18 (F := Ideal) k0_pay17) fun _ _ => 0 := by
  intro i j; pointwise [k0_pay18, k0_pay17]; rfl
/-- The running total starts at zero. -/
theorem pay19_holds : Holds (k0_pay19 (F := Ideal)) fun _ _ => 0 := by
  intro i j; pointwise [k0_pay19]; rfl

end Cert.Value

end
-- ==== Proof.Block.lean ====
/- What one block of 8192 rows computes from its inputs and from what the blocks before it left: the row values, the
   sums over the smaller segments, and the block's result. Block `k` holds the rows from `8192 k` on. -/
module

public import proofs.«01_k».proof.Proof.Setup

@[expose] public section

noncomputable section

namespace Cert.Value

open Idealize.ShloMosaic Cert.KernelIdeal Cert.KernelIdeal.Gen
open scoped BigOperators

/-- The value of row `r` for head `j`: two layers with a maximum, then the folded matrix. -/
def rowValue (X : ℕ → Fin 32 → ℝ) (W1 : Fin 32 → Fin 128 → ℝ) (B1 : Fin 128 → ℝ) (W2 : Fin 128 → Fin 128 → ℝ) (B2 : Fin 128 → ℝ)
    (C : Fin 128 → Fin 4 → ℝ) : ℕ → Fin 4 → ℝ :=
  mmul (layer (layer X W1 B1) W2 B2) C

/-- The sum of `f` over the first `n` rows whose segment is before `s`. -/
def less (D : ℕ → ℕ) (f : ℕ → ℝ) (n s : ℕ) : ℝ := ∑ r ∈ Finset.range n, if D r < s then f r else 0

variable {D : ℕ → ℕ}

/-- A block's part of that sum, segment by segment. -/
theorem less_segments (hD : ∀ r, D r < 16) (n s : ℕ) (f : ℕ → ℝ) :
    (∑ u : Fin 16, (if u.val < s then (1 : ℝ) else 0) * ∑ i : Fin 8192, (if D (n + i.val) = u.val then 1 else 0) * f (n + i.val))
      = ∑ i : Fin 8192, if D (n + i.val) < s then f (n + i.val) else 0 := by
  simp only [Finset.mul_sum]
  rw [Finset.sum_comm]
  refine Finset.sum_congr rfl fun i _ => ?_
  have h := pick (D (n + i.val)) (hD _) (fun u => (if u < s then (1 : ℝ) else 0) * f (n + i.val))
  refine Eq.trans (Finset.sum_congr rfl fun u _ => ?_) (h.trans ?_)
  · ring
  · simp only [ite_mul, one_mul, zero_mul]

/-- The sum over one block more. -/
theorem less_add (D : ℕ → ℕ) (f : ℕ → ℝ) (n s : ℕ) :
    less D f (n + 8192) s = less D f n s + ∑ i : Fin 8192, if D (n + i.val) < s then f (n + i.val) else 0 := by
  unfold less
  rw [Finset.sum_range_add, Finset.sum_range (fun x => if D (n + x) < s then f (n + x) else 0)]

/-- The number of the first `n` rows whose segment is before `s`. -/
theorem less_count (D : ℕ → ℕ) (n s : ℕ) : less D (fun _ => 1) n s = ((Nat.count (fun r => D r < s) n : ℕ) : ℝ) := by
  unfold less
  rw [Nat.count_eq_card_filter_range, Finset.sum_boole]

/-- The word of the block's total, stored as it is. -/
theorem pay1_eq (v : FVec Ideal S1x4 .f32) : k0_pay1 v = v := by
  refine ext_rows fun i j => ?_
  pointwise [k0_pay1]

/-- The second layer's offset, on every row. -/
theorem pay37_holds {b : FVec Ideal S1x128 .f32} {B : Fin 128 → ℝ} (hb : Holds b fun _ j => B j) : Holds (k0_pay37 b) fun _ j => B j := by
  intro i j
  pointwise [k0_pay37]
  exact hb _ _

variable {n : ℕ} {X : ℕ → Fin 32 → ℝ} {W1 : Fin 32 → Fin 128 → ℝ} {B1 B2 : Fin 128 → ℝ} {W2 : Fin 128 → Fin 128 → ℝ} {C : Fin 128 → Fin 4 → ℝ}
  {A : Fin 32 → Fin 4 → ℝ} {Z : ℕ → Fin 4 → ℝ}

/-- The block's row values. -/
theorem values_holds {x : FVec Ideal S8192x32 .f32} {w1 w1' : FVec Ideal S32x128 .f32} {b1 b2 : FVec Ideal S1x128 .f32}
    {w2 w2' : FVec Ideal S128x128 .f32} {c c' : FVec Ideal S128x4 .f32}
    (hx : Holds x fun i j => X (n + i.val) j) (h1 : Holds w1 W1) (h1' : Holds w1' fun _ _ => 0) (hb1 : Holds b1 fun _ j => B1 j)
    (h2 : Holds w2 W2) (h2' : Holds w2' fun _ _ => 0) (hb2 : Holds b2 fun _ j => B2 j) (hc : Holds c C) (hc' : Holds c' fun _ _ => 0) :
    Holds (k0_pay38 (k0_pay36 x w1 w1' b1 w2 w2') (k0_pay37 b2) c c') fun i j => rowValue X W1 B1 W2 B2 C (n + i.val) j :=
  pay38_holds (pay36_holds hx h1 h1' hb1 h2 h2') (pay37_holds hb2) hc hc'

variable {z : FVec Ideal S8192x4 .f32} {ids : IVec S8192x1 32} {ls : FVec Ideal S16x4 .f32} {lc : FVec Ideal S1x16 .f32}

/-- The sums over the smaller segments, with this block's rows. -/
theorem sums_step (hz : Holds z fun i j => Z (n + i.val) j) (hd : HoldsIds ids fun i => D (n + i)) (hD : ∀ r, D r < 16)
    (hs : Holds ls fun s j => less D (fun r => Z r j) n s.val) (s : Fin 16) (j : Fin 4) :
    ls (ix2 s j) + k0_pay250 (k0_pay247 z ids) k0_pay249 (ix2 s j) = ((less D (fun r => Z r j) (n + 8192) s.val : ℝ) : EReal) := by
  rw [hs, pay250_holds (pay247_holds hd (fun r => hD _) hz) pay249_holds, ← EReal.coe_add]
  refine congrArg (fun x : ℝ => (x : EReal)) ?_
  rw [less_add, ← less_segments hD n s.val (fun r => Z r j)]
  rfl

/-- The numbers of rows in the smaller segments, with this block's rows. -/
theorem counts_step (hd : HoldsIds ids fun i => D (n + i)) (hD : ∀ r, D r < 16)
    (hs : Holds lc fun _ s => less D (fun _ => 1) n s.val) (u : Fin 1) (s : Fin 16) :
    lc (ix2 u s) + k0_pay251 (k0_pay248 ids) k0_pay249 (ix2 u s) = ((less D (fun _ => 1) (n + 8192) s.val : ℝ) : EReal) := by
  rw [hs, pay251_holds (pay248_holds hd fun r => hD _) pay249_holds, ← EReal.coe_add]
  refine congrArg (fun x : ℝ => (x : EReal)) ?_
  rw [less_add, ← less_segments hD n s.val (fun _ => 1)]
  simp only [mul_one]
  exact congrArg (less D (fun _ => 1) n s.val + ·) (Finset.sum_congr rfl fun u _ => mul_comm _ _)

/-- The sums the block leaves for the next. -/
theorem sums_left (hz : Holds z fun i j => Z (n + i.val) j) (hd : HoldsIds ids fun i => D (n + i)) (hD : ∀ r, D r < 16)
    (hs : Holds ls fun s j => less D (fun r => Z r j) n s.val) :
    Holds (k0_pay2 (k0_pay250 (k0_pay247 z ids) k0_pay249) ls) fun s j => less D (fun r => Z r j) (n + 8192) s.val := by
  intro s j
  have h := sums_step hz hd hD hs s j
  generalize k0_pay250 (k0_pay247 z ids) k0_pay249 = v at h ⊢
  pointwise [k0_pay2]
  exact h

/-- The counts the block leaves for the next. -/
theorem counts_left (hd : HoldsIds ids fun i => D (n + i)) (hD : ∀ r, D r < 16)
    (hs : Holds lc fun _ s => less D (fun _ => 1) n s.val) :
    Holds (k0_pay3 (k0_pay251 (k0_pay248 ids) k0_pay249) lc) fun _ s => less D (fun _ => 1) (n + 8192) s.val := by
  intro u s
  have h := counts_step hd hD hs u s
  generalize k0_pay251 (F := Ideal) (k0_pay248 ids) k0_pay249 = v at h ⊢
  pointwise [k0_pay3]
  exact h

/-- The row itself, as its leading half. -/
theorem pay34_holds {x : FVec Ideal S8192x32 .f32} {Y : Fin 8192 → Fin 32 → ℝ} (h : Holds x Y) : Holds (k0_pay34 x) Y := by
  intro i j; pointwise [k0_pay34]; exact h i j

/-- What is left of the row after its leading half. -/
theorem pay35_holds {x : FVec Ideal S8192x32 .f32} {Y : Fin 8192 → Fin 32 → ℝ} (h : Holds x Y) : Holds (k0_pay35 x) fun _ _ => 0 := by
  intro i j; pointwise [k0_pay35, k0_pay34]; rw [h, sub_self_coe]; rfl

/-- Where the numbers `D` rise, the rows whose segment is before `s` are the first ones. -/
theorem before_iff (hm : Monotone D) (s : ℕ) : ∀ M, ∀ r < M, (D r < s ↔ r < Nat.count (fun r => D r < s) M)
  | 0, r, hr => absurd hr (Nat.not_lt_zero _)
  | M + 1, r, hr => by
    have ih := before_iff hm s M
    have hc : Nat.count (fun r => D r < s) M ≤ M := Nat.count_le _
    rw [Nat.count_succ]
    by_cases h : D M < s
    · rw [if_pos h]
      have hM : Nat.count (fun r => D r < s) M = M := by
        by_contra hne
        have hlt : Nat.count (fun r => D r < s) M < M := by omega
        have := (ih _ hlt).1 (lt_of_le_of_lt (hm hlt.le) h)
        omega
      rw [hM]
      exact ⟨fun _ => hr, fun _ => lt_of_le_of_lt (hm (by omega)) h⟩
    · rw [if_neg h, Nat.add_zero]
      by_cases hrM : r = M
      · subst hrM
        exact ⟨fun h' => absurd h' h, fun h' => by omega⟩
      · exact ih r (by omega)

/-- The number of rows before segment `s`. -/
def startOf (D : ℕ → ℕ) (s : ℕ) : ℕ := Nat.count (fun r => D r < s) 32768

/-- It is a number of rows. -/
theorem startOf_le (D : ℕ → ℕ) (s : ℕ) : startOf D s ≤ 32768 := Nat.count_le _

/-- A row's segment begins at the row or before. -/
theorem startOf_le_row (hm : Monotone D) {i : ℕ} (hi : i < 32768) : startOf D (D i) ≤ i := by
  have h := before_iff hm (D i) 32768 i hi
  by_contra hlt
  exact absurd (h.2 (by unfold startOf at hlt; omega)) (lt_irrefl _)

/-- The sum over the smaller segments, taken at any row after `i`, is the sum up to the beginning of row `i`'s segment. -/
theorem less_eq (hm : Monotone D) (f : ℕ → ℝ) {i m : ℕ} (him : i < m) (hM : m ≤ 32768) :
    less D f m (D i) = ∑ r ∈ Finset.range (startOf D (D i)), f r := by
  unfold less
  rw [← Finset.sum_filter]
  refine Finset.sum_congr ?_ fun _ _ => rfl
  have hs := startOf_le_row hm (show i < 32768 by omega)
  ext r
  simp only [Finset.mem_filter, Finset.mem_range]
  constructor
  · rintro ⟨h1, h2⟩
    exact (before_iff hm (D i) 32768 r (by omega)).1 h2
  · intro h
    exact ⟨by omega, (before_iff hm (D i) 32768 r (by omega)).2 h⟩

/-- The mean of the rows from `T i` to `i`. -/
def meanOf {p : ℕ} (E : ℕ → Fin p → ℝ) (T : ℕ → ℕ) (i : ℕ) (l : Fin p) : ℝ :=
  ((∑ r ∈ Finset.range (i + 1), E r l) - ∑ r ∈ Finset.range (T i), E r l) * (1 / ((i - T i + 1 : ℕ) : ℝ))

/-- The sum so far less the smaller segments' sum, over their rows' number, is the mean of the row's segment so far. -/
theorem mean_value (hm : Monotone D) {r M : ℕ} (hr : r < M) (hM : M ≤ 32768) (x : ℝ) (j : Fin 4) (o : EReal) :
    ((x : ℝ) : EReal) + Ideal.div (((∑ q ∈ Finset.range (r + 1), Z q j) - less D (fun r => Z r j) M (D r) : ℝ) : EReal)
        (((r : ℝ) + 1 - ((Nat.count (fun q => D q < D r) M : ℕ) : ℝ) : ℝ) : EReal) + o
      = ((x + meanOf Z (fun i => startOf D (D i)) r j : ℝ) : EReal) + o := by
  have hst := startOf_le_row hm (show r < 32768 by omega)
  have hcount : ((Nat.count (fun q => D q < D r) M : ℕ) : ℝ) = (startOf D (D r) : ℝ) := by
    rw [← less_count, less_eq hm (fun _ => 1) hr hM, Finset.sum_const, Finset.card_range, nsmul_eq_mul, mul_one]
  have hp : ((r : ℝ) + 1 - (startOf D (D r) : ℝ)) = ((r - startOf D (D r) + 1 : ℕ) : ℝ) := by
    rw [Nat.cast_add, Nat.cast_sub hst, Nat.cast_one]
    ring
  rw [hcount, hp, less_eq hm _ hr hM, Ideal.div_coe (Nat.cast_ne_zero.2 (Nat.succ_ne_zero _)), ← EReal.coe_mul, ← EReal.coe_add]
  rfl

/-- The block's result: the row against the first matrix, the mean of the row values over the row's segment so far, and
    the constant row. -/
theorem result_apply {k : ℕ} (hk : k < 4) {x : FVec Ideal S8192x32 .f32} {a a' : FVec Ideal S32x4 .f32} {sums : FVec Ideal S8192x4 .f32}
    (hx : Holds x fun i j => X (8192 * k + i.val) j) (hz : Holds z fun i j => Z (8192 * k + i.val) j)
    (hd : HoldsIds ids fun i => D (8192 * k + i)) (hD : ∀ r, D r < 16) (hm : Monotone D)
    (hs : Holds ls fun s j => less D (fun r => Z r j) (8192 * k) s.val) (hc : Holds lc fun _ s => less D (fun _ => 1) (8192 * k) s.val)
    (hsums : Holds sums fun i j => ∑ r ∈ Finset.range (8192 * k + i.val + 1), Z r j) (ha : Holds a A) (ha' : Holds a' fun _ _ => 0)
    (const : FVec Ideal S1x4 .f32) (i : Fin 8192) (j : Fin 4) :
    k0_pay252 (BitVec.ofNat 32 k) (k0_pay34 x) (k0_pay35 x) sums (k0_pay246 ids) (k0_pay247 z ids) (k0_pay248 ids) k0_pay249 ls lc a a' const (ix2 i j)
      = ((mmul X A (8192 * k + i.val) j + meanOf Z (fun i => startOf D (D i)) (8192 * k + i.val) j : ℝ) : EReal) + const (ix2 0 j) := by
  have hi := i.isLt
  have hst := startOf_le_row hm (show 8192 * k + i.val < 32768 by omega)
  have hN : ∀ s : Fin 16, lc (ix2 0 s) + k0_pay251 (k0_pay248 ids) k0_pay249 (ix2 0 s)
      = (((Nat.count (fun r => D r < s.val) (8192 * k + 8192) : ℕ) : ℝ) : EReal) := fun s => by
    rw [counts_step hd hD hc, less_count]
  rw [pay252_apply hk const (pay34_holds hx) (pay35_holds hx) hsums (fun r => hD _) (pay246_holds hd fun r => hD _)
    (T := fun s j => less D (fun r => Z r j) (8192 * k + 8192) s) (N := fun s => Nat.count (fun r => D r < s) (8192 * k + 8192))
    (sums_step hz hd hD hs) hN ha ha' i j]
  exact mean_value hm (show 8192 * k + i.val < 8192 * k + 8192 by omega) (by omega) (mmul X A (8192 * k + i.val) j) j _

end Cert.Value

end
-- ==== Proof.Running.lean ====
/- The running sum down an array's rows, as the reference takes it: a window over all rows above, the rows before the
   first being zero. -/
module

public import proofs.«01_k».proof.Proof.Reals

@[expose] public section

noncomputable section

namespace Cert.Value

open Idealize.ShloMosaic
open scoped BigOperators

/-- A column of `N` has `N` elements. -/
theorem column_numel (N : ℕ) : (⟨2, ![N, 1]⟩ : Shape).numel = N := by
  show ∏ a : Fin 2, (![N, 1] : Fin 2 → ℕ) a = N
  rw [Fin.prod_univ_two]
  exact Nat.mul_one N

/-- Position `n` of a column is its row `n`. -/
theorem column_symm {N : ℕ} (n : Fin (⟨2, ![N, 1]⟩ : Shape).numel) :
    (⟨2, ![N, 1]⟩ : Shape).rowMajor.symm n = ix2 (n.cast (column_numel N)) (0 : Fin 1) :=
  (Equiv.symm_apply_eq _).2 (Fin.ext (by
    rw [Shape.rowMajor_val_two]
    show n.val = n.val * 1 + 0
    omega))

/-- Adding up real numbers along a list, started anywhere. -/
theorem foldl_add_real {ι : Type} (l : List ι) (g : ι → EReal) (f : ι → ℝ) (hg : ∀ n, g n = ((f n : ℝ) : EReal)) (v : EReal) :
    l.foldl (fun r n => r + g n) v = v + (l.map fun n => ((f n : ℝ) : EReal)).sum := by
  induction l generalizing v with
  | nil => simp
  | cons a l ih => rw [List.foldl_cons, ih, List.map_cons, List.sum_cons, add_assoc, hg]

/-- The window ending at row `i`, of which the rows before the first count zero, sums the rows up to `i`. -/
theorem window_sum (M i : ℕ) (hi : i ≤ M) (f : ℕ → ℝ) :
    (∑ n ∈ Finset.range (M + 1), if M ≤ i + n then f (i + n - M) else 0) = ∑ r ∈ Finset.range (i + 1), f r := by
  have e : M + 1 = (M - i) + (i + 1) := by omega
  rw [e, Finset.sum_range_add, Finset.sum_eq_zero, zero_add]
  · refine Finset.sum_congr rfl fun r hr => ?_
    rw [if_pos (by omega)]
    congr 1
    omega
  · intro n hn
    rw [Finset.mem_range] at hn
    rw [if_neg (by omega)]

/-- The reference's running sum: row `i` holds the sum of the rows up to and with `i`. -/
theorem running_sum {M K : ℕ} (x : FVec Ideal ⟨2, ![M + 1, K]⟩ .f32) (E : ℕ → Fin K → ℝ) (hx : Holds x fun i j => E i.val j)
    (init : FVec Ideal ⟨0, ![]⟩ .f32) (hinit : ∀ i, init i = 0)
    (h : (⟨2, ![M + 1, K]⟩ : Shape).ReduceWindows (![M + 1, 1] : Fin 2 → ℕ) ![1, 1] ![M, 0] ![0, 0] ⟨2, ![M + 1, K]⟩)
    (hu : 0 < (⟨0, ![]⟩ : Shape).numel) :
    Holds (Host.reduceWindowAdd ![M + 1, 1] ![1, 1] ![M, 0] ![0, 0] x init h hu) fun i j => ∑ r ∈ Finset.range (i.val + 1), E r j := by
  intro i j
  have hi := i.isLt
  have hj := j.isLt
  show Ideal.hostReduceWindowAdd (![M + 1, 1] : Fin 2 → ℕ) ![1, 1] ![M, 0] ![0, 0] h x (init (Shape.Idx.first hu)) (ix2 i j) = _
  unfold Ideal.hostReduceWindowAdd Host.reduceWindow
  refine (foldl_add_real _ _ (fun n => if M ≤ i.val + n.val then E (i.val + n.val - M) j else 0) (fun n => ?_) _).trans ?_
  · dsimp only
    have hn : n.val < M + 1 := (n.cast (column_numel _)).isLt
    have w0 : ((⟨2, ![M + 1, 1]⟩ : Shape).rowMajor.symm n 0).val = n.val := by rw [column_symm]; rfl
    have w1 : ((⟨2, ![M + 1, 1]⟩ : Shape).rowMajor.symm n 1).val = 0 := by rw [column_symm]; rfl
    split
    · next hin =>
      have h0 := hin 0
      change M ≤ i.val * 1 + ((⟨2, ![M + 1, 1]⟩ : Shape).rowMajor.symm n 0).val ∧ i.val * 1 + ((⟨2, ![M + 1, 1]⟩ : Shape).rowMajor.symm n 0).val - M < M + 1 at h0
      rw [w0] at h0
      rw [if_pos (by omega)]
      refine (congrArg x (funext fun a => Fin.ext ?_)).trans (hx ⟨i.val + n.val - M, by omega⟩ j)
      match a with
      | ⟨0, _⟩ =>
        show i.val * 1 + ((⟨2, ![M + 1, 1]⟩ : Shape).rowMajor.symm n 0).val - M = i.val + n.val - M
        rw [w0, Nat.mul_one]
      | ⟨1, _⟩ =>
        show j.val * 1 + ((⟨2, ![M + 1, 1]⟩ : Shape).rowMajor.symm n 1).val - 0 = j.val
        rw [w1]; omega
    · next hin =>
      rw [if_neg fun hle => hin fun a => by
        match a with
        | ⟨0, _⟩ =>
          show M ≤ i.val * 1 + ((⟨2, ![M + 1, 1]⟩ : Shape).rowMajor.symm n 0).val ∧ i.val * 1 + ((⟨2, ![M + 1, 1]⟩ : Shape).rowMajor.symm n 0).val - M < M + 1
          rw [w0]; omega
        | ⟨1, _⟩ =>
          show 0 ≤ j.val * 1 + ((⟨2, ![M + 1, 1]⟩ : Shape).rowMajor.symm n 1).val ∧ j.val * 1 + ((⟨2, ![M + 1, 1]⟩ : Shape).rowMajor.symm n 1).val - 0 < K
          rw [w1]; omega]
      exact hinit _
  · rw [hinit, zero_add, ← Fin.sum_univ_def, sum_coe,
    Fin.sum_univ_eq_sum_range (fun n => if M ≤ i.val + n then E (i.val + n - M) j else 0), column_numel, window_sum M i.val (by omega) (fun r => E r j)]

end Cert.Value

end
-- ==== Proof.Reference.lean ====
/- What the reference computes, stage by stage: the encoding of every row, the first row of every segment, the running
   mean of a row's segment, and the keys against the weights. -/
module

public import proofs.«01_k».proof.Proof.Gen.ReferenceIdeal.Run
public import proofs.«01_k».proof.Proof.Block
public import proofs.«01_k».proof.Proof.Running
public import Idealize.ShloMosaic.Lib.Routing.OpsSet
public import Idealize.ShloMosaic.Lib.Routing.OpsPair

@[expose] public section

noncomputable section

namespace Cert.Value.Ref

open Idealize.ShloMosaic Cert.ReferenceIdeal Cert.ReferenceIdeal.Gen
open scoped BigOperators

/-! ## The stages, as the reference prints them -/

/-- An offset per column, on every row. -/
def bias (b : FVec Ideal S128 .f32) : FVec Ideal S32768x128 .f32 :=
  broadcastInDim S32768x128 ![0, 1] bcast_S1x128_S32768x128_0_1 (broadcastInDim S1x128 ![1] bcast_S128_S1x128_1 b)

/-- Zeros. -/
def zeros : FVec Ideal S32768x128 .f32 := broadcastInDim S32768x128 ![] bcast_S_S32768x128 (constant S_ .f32 0x00000000#32)

/-- The first layer. -/
def first (x : FVec Ideal S32768x32 .f32) (w : FVec Ideal S32x128 .f32) (b : FVec Ideal S128 .f32) : FVec Ideal S32768x128 .f32 :=
  maximumf (addf (Host.dotGeneral dot_S32768x32_S32x128_S32768x128_1_0_0_1_n_n none x w) (bias b)) zeros

/-- A product with 128 by 128 weights, with an offset. -/
def affine (x : FVec Ideal S32768x128 .f32) (w : FVec Ideal S128x128 .f32) (b : FVec Ideal S128 .f32) : FVec Ideal S32768x128 .f32 :=
  addf (Host.dotGeneral dot_S32768x128_S128x128_S32768x128_1_0_0_1_n_n none x w) (bias b)

/-- The running sum of the rows. -/
def running (e : FVec Ideal S32768x128 .f32) : FVec Ideal S32768x128 .f32 :=
  Host.reduceWindowAdd ![32768, 1] ![1, 1] ![32767, 0] ![0, 0] e (broadcastInDim S_ ![] bcast_S_S_ (constant S_ .f32 0x00000000#32))
    reduceWindows_S32768x128_S32768x128_w32768s1p32767_0_w1s1p0_0 h_S_

/-- The running sum with a row of zeros in front. -/
def padded (s : FVec Ideal S32768x128 .f32) : FVec Ideal S32769x128 .f32 :=
  concatenate S32769x128 0 [⟨S1x128, (broadcastInDim S1x128 ![] bcast_S_S1x128 (constant S_ .f32 0x00000000#32))⟩, ⟨S32768x128, s⟩]
    concatenates_S1x128_S32768x128_S32769x128_d0

/-- An index counted from the end where it is negative. -/
def wrap (d : IVec S32768 32) (n : BitVec 32) : IVec S32768 32 :=
  select (cmpi .slt d (broadcastInDim S32768 ![] bcast_S_S32768 (constantI S_ 32 0#32)))
    (addi d (broadcastInDim S32768 ![] bcast_S_S32768 (constantI S_ 32 n))) d

/-- Of every segment, the number of rows in the segments before it. -/
def starts (d : IVec S32768 32) : IVec S16 32 :=
  Host.reduce IntOp.addi (extui 32 (cmpi .slt
    (broadcastInDim S16x32768 ![0, 1] bcast_S1x32768_S16x32768_0_1 (broadcastInDim S1x32768 ![1] bcast_S32768_S1x32768_1 d))
    (broadcastInDim S16x32768 ![0, 1] bcast_S16x1_S16x32768_0_1 (broadcastInDim S16x1 ![0] bcast_S16_S16x1_0 (iotaInDim S16 32 0)))) natLt_1_32)
    (constantI S_ 32 0#32) reducesTo_S16x32768_S16_d1 h_S_

/-- Of every row, the first row of its segment. -/
def start (d : IVec S32768 32) : IVec S32768 32 :=
  Host.gather gather_S16_S32768x1_S32768_n_0_n_n_0_1_1 (starts d) (broadcastInDim S32768x1 ![0] bcast_S32768_S32768x1_0 (wrap d 16#32))

/-- Of every row, the running sum before its segment. -/
def before (s : FVec Ideal S32768x128 .f32) (t : IVec S32768 32) : FVec Ideal S32768x128 .f32 :=
  Host.gather gather_S32769x128_S32768x1_S32768x128_1_0_n_n_0_1_1128 (padded s)
    (broadcastInDim S32768x1 ![0] bcast_S32768_S32768x1_0 (wrap t 32769#32))

/-- Of every row, its place in its segment, counted from one. -/
def place (t : IVec S32768 32) : FVec Ideal S32768 .f32 :=
  sitofp .f32 (addi (subi (iotaInDim S32768 32 0) t) (broadcastInDim S32768 ![] bcast_S_S32768 (constantI S_ 32 1#32)))

/-- Of every row, the mean of its segment's rows so far. -/
def mean (s : FVec Ideal S32768x128 .f32) (t : IVec S32768 32) : FVec Ideal S32768x128 .f32 :=
  Host.divf (subf s (before s t))
    (broadcastInDim S32768x128 ![0, 1] bcast_S32768x1_S32768x128_0_1 (broadcastInDim S32768x1 ![0] bcast_S32768_S32768x1_0 (place t)))

/-- The keys: the row and its mean, side by side, against the key weights. -/
def keys (x : FVec Ideal S32768x32 .f32) (a : FVec Ideal S32768x128 .f32) (wk : FVec Ideal S160x256 .f32) (bk : FVec Ideal S256 .f32) :
    FVec Ideal S32768x256 .f32 :=
  addf (Host.dotGeneral dot_S32768x160_S160x256_S32768x256_1_0_0_1_n_n none
    (concatenate S32768x160 1 [⟨S32768x32, x⟩, ⟨S32768x128, a⟩] concatenates_S32768x32_S32768x128_S32768x160_d1) wk)
    (broadcastInDim S32768x256 ![0, 1] bcast_S1x256_S32768x256_0_1 (broadcastInDim S1x256 ![1] bcast_S256_S1x256_1 bk))

/-- The result: every head's keys against its weights, over eight. -/
def scores (k : FVec Ideal S32768x256 .f32) (wq : FVec Ideal S4x64 .f32) : FVec Ideal S32768x4 .f32 :=
  shapeCast _ (Host.divf (transpose S32768x4x1x1 [1, 0, 2, 3]
    (Host.dotGeneral dot_S32768x4x1x64_S4x64x1_S4x32768x1x1_3_1_02_2_1_0 none
      (shapeCast _ k shapeCasts_S32768x256_S32768x4x1x64)
      (shapeCast _ (broadcastInDim S1x4x64x1 ![1, 2] bcast_S4x64_S1x4x64x1_1_2 wq) shapeCasts_S1x4x64x1_S4x64x1))
    transposes_S4x32768x1x1_S32768x4x1x1_1_0_2_3)
    (broadcastInDim S32768x4x1x1 ![] bcast_S_S32768x4x1x1 (constant S_ .f32 0x41000000#32))) shapeCasts_S32768x4x1x1_S32768x4

/-- The whole reference. -/
def whole (x : FVec Ideal S32768x32 .f32) (d : IVec S32768 32) (w1 : FVec Ideal S32x128 .f32) (b1 : FVec Ideal S128 .f32)
    (w2 : FVec Ideal S128x128 .f32) (b2 : FVec Ideal S128 .f32) (w3 : FVec Ideal S128x128 .f32) (b3 : FVec Ideal S128 .f32)
    (wr : FVec Ideal S128x128 .f32) (br : FVec Ideal S128 .f32) (wk : FVec Ideal S160x256 .f32) (bk : FVec Ideal S256 .f32)
    (wq : FVec Ideal S4x64 .f32) : FVec Ideal S32768x4 .f32 :=
  scores (keys x (affine (mean (running (affine (maximumf (affine (first x w1 b1) w2 b2) zeros) w3 b3)) (start d)) wr br) wk bk) wq

/-- The reference's result is the stages composed. -/
theorem result_eq (m : (ℓ : Loc nD τ sig) → Buf (Elt Ideal) ℓ) (c : Dev nD) :
    Cert.ReferenceIdeal.Value.res_main_v64 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := rfl

/-! ## Their values -/

/-- The vector `v` holds the real numbers `r`. -/
def HoldsVec {a : ℕ} (v : FVec Ideal ⟨1, ![a]⟩ .f32) (r : Fin a → ℝ) : Prop := ∀ i, v (ix1 i) = ((r i : ℝ) : EReal)

/-- The first layer's values. -/
theorem first_holds {x w b X W B} (hx : Holds x X) (hw : Holds w W) (hb : HoldsVec b B) : Holds (first x w b) (layer X W B) := by
  intro i j
  pointwise [first, bias, zeros, dot_S32768x32_S32x128_S32768x128_1_0_0_1_n_n]
  simp only [hx _ _, hw _ _, hb _, sum_mul_coe, ← EReal.coe_add, max_zero_coe]
  rfl

/-- An affine layer's values. -/
theorem affine_holds {x w b X W B} (hx : Holds x X) (hw : Holds w W) (hb : HoldsVec b B) :
    Holds (affine x w b) fun i j => mmul X W i j + B j := by
  intro i j
  pointwise [affine, bias, dot_S32768x128_S128x128_S32768x128_1_0_0_1_n_n]
  simp only [hx _ _, hw _ _, hb _, sum_mul_coe, ← EReal.coe_add]
  rfl

/-- The second layer's values. -/
theorem second_holds {x w b X W B} (hx : Holds x X) (hw : Holds w W) (hb : HoldsVec b B) :
    Holds (maximumf (affine x w b) zeros) (layer X W B) := by
  intro i j
  have h := affine_holds hx hw hb i j
  pointwise [zeros]
  rw [h, max_zero_coe]
  rfl

/-- The running sums. -/
theorem running_holds {e : FVec Ideal S32768x128 .f32} {E : ℕ → Fin 128 → ℝ} (he : Holds e fun i j => E i.val j) :
    Holds (running e) fun i j => ∑ r ∈ Finset.range (i.val + 1), E r j :=
  running_sum (M := 32767) e E he _ (fun i => by pointwise) _ _

variable {D : ℕ → ℕ}

/-- The integer vector `v` holds the numbers `n`. -/
def HoldsNat {a : ℕ} (v : IVec ⟨1, ![a]⟩ 32) (n : ℕ → ℕ) : Prop := ∀ i : Fin a, v (ix1 i) = BitVec.ofNat 32 (n i.val)

theorem starts_holds {d : IVec S32768 32} (hd : HoldsNat d D) (hD : ∀ r, D r < 16) : HoldsNat (starts d) (startOf D) := by
  intro s
  have hs := s.isLt
  rw [ix1_eq_valueIdx]
  refine Routing.reduce_count (by norm_num) _ _ _ _ s (fun r => D r < s.val) fun q => ?_
  rw [← ix2_eq_valueIdx]
  have hq := hD q.val
  pointwise
  rw [hd q]
  show BitVec.ofBool (BitVec.slt (BitVec.ofNat 32 (D q.val)) (BitVec.ofNat 32 s.val)) = 1#1 ↔ _
  simp only [BitVec.slt, toInt_ofNat (show D q.val < 2 ^ 31 by omega), toInt_ofNat (show s.val < 2 ^ 31 by omega), Nat.cast_lt]
  by_cases h : D q.val < s.val <;> simp [h]

theorem wrap_holds {d : IVec S32768 32} {n : BitVec 32} (hd : HoldsNat d D) (hD : ∀ r, D r < 2 ^ 31) : HoldsNat (wrap d n) D := by
  intro i
  have h := hD i.val
  pointwise [wrap]
  rw [hd i]
  exact Routing.wrap_of_lt _ _ (by rw [BitVec.toNat_ofNat]; omega)

theorem start_holds {d : IVec S32768 32} (hd : HoldsNat d D) (hD : ∀ r, D r < 16) : HoldsNat (start d) fun i => startOf D (D i) := by
  intro i
  rw [ix1_eq_valueIdx]
  refine (Routing.gather_take1 _ rfl rfl rfl rfl (starts d) _ i ⟨D i.val, hD _⟩ ?_ (by norm_num)).trans ?_
  · rw [← ix2_eq_valueIdx]
    pointwise
    exact wrap_holds hd (fun r => by have := hD r; omega) i
  · rw [← ix1_eq_valueIdx]
    exact starts_holds hd hD _

theorem padded_holds {s : FVec Ideal S32768x128 .f32} {E : ℕ → Fin 128 → ℝ}
    (hs : Holds s fun i j => ∑ r ∈ Finset.range (i.val + 1), E r j) : Holds (padded s) fun i j => ∑ r ∈ Finset.range i.val, E r j := by
  intro i j
  pointwise [padded]
  split
  · next h =>
    have : i.val = 0 := by omega
    rw [this]; rfl
  · next h =>
    rw [hs _ _]
    have : i.val - 1 + 1 = i.val := by omega
    simp only [this]

theorem before_holds {s : FVec Ideal S32768x128 .f32} {E : ℕ → Fin 128 → ℝ} {t : IVec S32768 32} {T : ℕ → ℕ}
    (hs : Holds s fun i j => ∑ r ∈ Finset.range (i.val + 1), E r j) (ht : HoldsNat t T) (hT : ∀ r, T r ≤ 32768) :
    Holds (before s t) fun i j => ∑ r ∈ Finset.range (T i.val), E r j := by
  intro i j
  rw [ix2_eq_valueIdx]
  refine (Routing.gather_row _ rfl rfl rfl rfl rfl (padded s) _ i j ⟨T i.val, by have := hT i.val; omega⟩ ?_ (by norm_num)).trans ?_
  · rw [← ix2_eq_valueIdx]
    pointwise
    exact wrap_holds ht (fun r => by have := hT r; omega) i
  · rw [← ix2_eq_valueIdx]
    exact padded_holds hs _ _

theorem place_holds {t : IVec S32768 32} {T : ℕ → ℕ} (ht : HoldsNat t T) (hT : ∀ r < 32768, T r ≤ r) :
    HoldsVec (place t) fun i => ((i.val - T i.val + 1 : ℕ) : ℝ) := by
  intro i
  have hi := i.isLt
  have h := hT i.val hi
  pointwise [place]
  rw [ht i]
  have e : IntOp.addi (IntOp.subi (BitVec.ofNat 32 i.val) (BitVec.ofNat 32 (T i.val))) 1#32 = BitVec.ofNat 32 (i.val - T i.val + 1) := by
    generalize T i.val = u at h
    obtain ⟨k, hk⟩ := Nat.exists_eq_add_of_le h
    rw [hk, Nat.add_sub_cancel_left]
    show BitVec.ofNat 32 (u + k) - BitVec.ofNat 32 u + BitVec.ofNat 32 1 = _
    rw [BitVec.ofNat_add, BitVec.ofNat_add, BitVec.add_comm (BitVec.ofNat 32 u), BitVec.add_sub_cancel]
  rw [e]
  show ((((BitVec.ofNat 32 (i.val - T i.val + 1)).toInt : ℤ) : ℝ) : EReal) = _
  rw [toInt_ofNat (by omega)]
  norm_cast

/-- The running means: the sum of the rows from the segment's first on, over their number. -/
theorem mean_holds {s : FVec Ideal S32768x128 .f32} {E : ℕ → Fin 128 → ℝ} {t : IVec S32768 32} {T : ℕ → ℕ}
    (hs : Holds s fun i j => ∑ r ∈ Finset.range (i.val + 1), E r j) (ht : HoldsNat t T) (hT : ∀ r, T r ≤ 32768) (hT' : ∀ r < 32768, T r ≤ r) :
    Holds (mean s t) fun i j => ((∑ r ∈ Finset.range (i.val + 1), E r j) - ∑ r ∈ Finset.range (T i.val), E r j)
      * (1 / ((i.val - T i.val + 1 : ℕ) : ℝ)) := by
  intro i j
  have hb := before_holds hs ht hT i j
  have hp := place_holds ht hT' i
  pointwise [mean]
  rw [hs i j, hb, hp, ← EReal.coe_sub]
  refine (Ideal.div_coe (by positivity) _).trans ?_
  rw [← EReal.coe_mul]

/-- The real part of the keys. -/
def keyOf {ι : Type} (X : ι → Fin 32 → ℝ) (A : ι → Fin 128 → ℝ) (K : Fin 160 → Fin 256 → ℝ) (i : ι) (j : Fin 256) : ℝ :=
  (∑ k : Fin 32, X i k * K ⟨k.val, by omega⟩ j) + ∑ k : Fin 128, A i k * K ⟨32 + k.val, by omega⟩ j

/-- The keys: a real part, and the offset. -/
theorem keys_apply {x a wk X A K} (bk : FVec Ideal S256 .f32) (hx : Holds x X) (ha : Holds a A) (hk : Holds wk K) (i : Fin 32768) (j : Fin 256) :
    keys x a wk bk (ix2 i j) = ((keyOf X A K i j : ℝ) : EReal) + bk (ix1 j) := by
  pointwise [keys, dot_S32768x160_S160x256_S32768x256_1_0_0_1_n_n]
  simp only [hx _ _, ha _ _, hk _ _, sum_mul_coe, ← EReal.coe_add]
  rfl

/-- A real number and an offset of any size, times a real number. -/
theorem add_mul_real (b : EReal) (k w : ℝ) : (((k : ℝ) : EReal) + b) * ((w : ℝ) : EReal) = ((k * w : ℝ) : EReal) + b * ((w : ℝ) : EReal) := by
  induction b with
  | bot =>
    rw [EReal.add_bot]
    rcases lt_trichotomy w 0 with h | rfl | h
    · rw [EReal.bot_mul_coe_of_neg h, EReal.coe_add_top]
    · simp
    · rw [EReal.bot_mul_coe_of_pos h, EReal.add_bot]
  | top =>
    rw [EReal.coe_add_top]
    rcases lt_trichotomy w 0 with h | rfl | h
    · rw [EReal.top_mul_coe_of_neg h, EReal.add_bot]
    · simp
    · rw [EReal.top_mul_coe_of_pos h, EReal.coe_add_top]
  | coe b => rw [← EReal.coe_add, ← EReal.coe_mul, ← EReal.coe_mul, ← EReal.coe_add, add_mul]

/-- The result: the keys' real part against the weights, over eight, and the same of the keys' offsets. -/
theorem scores_apply {k : FVec Ideal S32768x256 .f32} {bk : FVec Ideal S256 .f32} {wq Wq} {κ : Fin 32768 → Fin 256 → ℝ}
    (hk : ∀ i j, k (ix2 i j) = ((κ i j : ℝ) : EReal) + bk (ix1 j)) (hq : Holds wq Wq) (i : Fin 32768) (h : Fin 4) :
    scores k wq (ix2 i h) = (((∑ d, κ i (col h d) * Wq h d) * (1 / 8) : ℝ) : EReal)
      + (∑ d, bk (ix1 (col h d)) * ((Wq h d : ℝ) : EReal)) * ((1 / 8 : ℝ) : EReal) := by
  pointwise [scores, dot_S32768x4x1x64_S4x64x1_S4x32768x1x1_3_1_02_2_1_0]
  simp only [hk _ _, hq _ _]
  have e : ∀ d : Fin 64, (⟨h.val * 64 + d.val, by omega⟩ : Fin 256) = col h d := fun d => Fin.ext (by simp only [col]; omega)
  simp only [e, add_mul_real]
  rw [eight, Ideal.div_coe (by norm_num), Finset.sum_add_distrib, sum_coe, add_mul_real]

/-- The encoding of row `r`: two layers with a maximum, then an affine one. -/
def encode (X : ℕ → Fin 32 → ℝ) (W1 : Fin 32 → Fin 128 → ℝ) (B1 : Fin 128 → ℝ) (W2 : Fin 128 → Fin 128 → ℝ) (B2 : Fin 128 → ℝ)
    (W3 : Fin 128 → Fin 128 → ℝ) (B3 : Fin 128 → ℝ) (r : ℕ) (l : Fin 128) : ℝ :=
  mmul (layer (layer X W1 B1) W2 B2) W3 r l + B3 l

/-- What the reference computes for row `i` and head `h`, on real arguments with sorted segment numbers below 16. The
    keys' offsets may have any size. -/
theorem whole_apply {x d w1 b1 w2 b2 w3 b3 wr br wk wq} (bk : FVec Ideal S256 .f32) {X : ℕ → Fin 32 → ℝ} {W1 B1 W2 B2 W3 B3 Wr Br K Wq}
    (hx : Holds x fun i j => X i.val j) (hd : HoldsNat d D) (hD : ∀ r, D r < 16) (hsort : ∀ i < 32768, startOf D (D i) ≤ i)
    (h1 : Holds w1 W1) (hb1 : HoldsVec b1 B1) (h2 : Holds w2 W2) (hb2 : HoldsVec b2 B2) (h3 : Holds w3 W3) (hb3 : HoldsVec b3 B3)
    (hr : Holds wr Wr) (hbr : HoldsVec br Br) (hk : Holds wk K) (hq : Holds wq Wq) (i : Fin 32768) (h : Fin 4) :
    whole x d w1 b1 w2 b2 w3 b3 wr br wk bk wq (ix2 i h)
      = (((∑ c, keyOf X (fun i l => mmul (meanOf (encode X W1 B1 W2 B2 W3 B3) fun i => startOf D (D i)) Wr i l + Br l) K i.val (col h c) * Wq h c)
            * (1 / 8) : ℝ) : EReal)
        + (∑ c, bk (ix1 (col h c)) * ((Wq h c : ℝ) : EReal)) * ((1 / 8 : ℝ) : EReal) := by
  have he : Holds (affine (maximumf (affine (first x w1 b1) w2 b2) zeros) w3 b3) fun i j => encode X W1 B1 W2 B2 W3 B3 i.val j :=
    affine_holds (second_holds (first_holds hx h1 hb1) h2 hb2) h3 hb3
  have hm := mean_holds (running_holds he) (start_holds hd hD) (fun r => startOf_le D (D r)) hsort
  exact scores_apply (keys_apply bk hx (affine_holds hm hr hbr) hk) hq i h

end Cert.Value.Ref

end
-- ==== Proof.Params.lean ====
/- The real numbers an admissible launch's arguments hold, and the arrays the two programs make of them. -/
module

public import proofs.«01_k».proof.Proof.Reference

@[expose] public section

noncomputable section

namespace Cert.Value

open Idealize.ShloMosaic Cert.KernelIdeal Cert.KernelIdeal.Gen
open scoped BigOperators

/-- The arguments as real numbers and segment numbers: the rows' data and segments, the layers' weights and offsets, the
    keys' weights and the queries. -/
structure Params where
  X : ℕ → Fin 32 → ℝ
  D : ℕ → ℕ
  W1 : Fin 32 → Fin 128 → ℝ
  B1 : Fin 128 → ℝ
  W2 : Fin 128 → Fin 128 → ℝ
  B2 : Fin 128 → ℝ
  W3 : Fin 128 → Fin 128 → ℝ
  B3 : Fin 128 → ℝ
  Wr : Fin 128 → Fin 128 → ℝ
  Br : Fin 128 → ℝ
  K : Fin 160 → Fin 256 → ℝ
  Wq : Fin 4 → Fin 64 → ℝ

namespace Params

variable (P : Params)

/-- The folded weights of the row's own data. -/
def A (r : Fin 32) (h : Fin 4) : ℝ := fold P.K P.Wq ⟨r.val, by omega⟩ h

/-- The folded weights of the mean. -/
def V2 (r : Fin 128) (h : Fin 4) : ℝ := fold P.K P.Wq ⟨32 + r.val, by omega⟩ h

/-- The folded weights of the encoding, taken through the product after the mean and the third layer. -/
def C : Fin 128 → Fin 4 → ℝ := mmul P.W3 (mmul P.Wr P.V2)

/-- The values whose running sums the kernel takes. -/
def Z : ℕ → Fin 4 → ℝ := rowValue P.X P.W1 P.B1 P.W2 P.B2 P.C

/-- The real part of the constant every row of head `h` gets. -/
def shift (h : Fin 4) : ℝ := ∑ l, P.B3 l * mmul P.Wr P.V2 l h + ∑ l, P.Br l * P.V2 l h

/-- The key offsets' share of head `h`, which need not be finite. -/
def offset (bk : FVec Ideal S256 .f32) (h : Fin 4) : EReal :=
  (∑ d, bk (ix1 (col h d)) * ((P.Wq h d : ℝ) : EReal)) * ((1 / 8 : ℝ) : EReal)

/-- The arrays hold these numbers, the segments are below 16 and in order. -/
structure Given (x : FVec Ideal S32768x32 .f32) (d : IVec S32768 32) (w1 : FVec Ideal S32x128 .f32) (b1 : FVec Ideal S128 .f32)
    (w2 : FVec Ideal S128x128 .f32) (b2 : FVec Ideal S128 .f32) (w3 : FVec Ideal S128x128 .f32) (b3 : FVec Ideal S128 .f32)
    (wr : FVec Ideal S128x128 .f32) (br : FVec Ideal S128 .f32) (wk : FVec Ideal S160x256 .f32) (wq : FVec Ideal S4x64 .f32) : Prop where
  x : Holds x fun i j => P.X i.val j
  d : Ref.HoldsNat d P.D
  small : ∀ r, P.D r < 16
  sorted : Monotone P.D
  w1 : Holds w1 P.W1
  b1 : Ref.HoldsVec b1 P.B1
  w2 : Holds w2 P.W2
  b2 : Ref.HoldsVec b2 P.B2
  w3 : Holds w3 P.W3
  b3 : Ref.HoldsVec b3 P.B3
  wr : Holds wr P.Wr
  br : Ref.HoldsVec br P.Br
  wk : Holds wk P.K
  wq : Holds wq P.Wq

end Params

end Cert.Value

end
-- ==== Proof.Inputs.lean ====
/- What each block of 8192 rows reads: its own rows of the data and of the segment ids, and the whole of every weight. -/
module

public import proofs.«01_k».proof.Proof.Gen.KernelIdeal.Value
public import Idealize.ShloMosaic.Lib.Pipeline.ValueKit
public import Idealize.ShloMosaic.Lib.Claim
public import Idealize.ShloMosaic.Lib.Pointwise

@[expose] public section

noncomputable section

namespace Cert.Value

open Idealize.ShloMosaic Idealize.ShloMosaic.TcCoe Idealize.SL.Sem Cert.KernelIdeal Cert.KernelIdeal.Gen

variable (m : (ℓ : Loc nD τ sig) → Buf (Elt Ideal) ℓ)

/-- The data and the ids move down by one block at every point. -/
theorem rows_index : ∀ t : Fin cfg0.N, win0_0.index t = ![t.val, 0] ∧ win0_1.index t = ![t.val, 0] :=
  (by decide +kernel : ∀ t : Fin grid0.N, _)

/-- The weights stay in place. -/
theorem weights_index : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

/-- Row `i` of block `t` of the data is row `8192 t + i`. -/
theorem block_data (c : Dev nD) (t : Fin cfg0.N) (i : Fin 8192) (j : Fin 32) (h : 8192 * t.val + i.val < 32768) :
    iblk m c 0 t (ix2 i j) = m ((c : Thread nD τ).loc main_arg0) (ix2 ⟨8192 * t.val + i.val, h⟩ j) := by
  blk_ext! [iblk, V, rows_index t]

/-- Entry `i` of block `t` of the ids is entry `8192 t + i`. -/
theorem block_ids (c : Dev nD) (t : Fin cfg0.N) (i : Fin 8192) (j : Fin 1) (h : 8192 * t.val + i.val < 32768) :
    iblk m c 1 t (ix2 i j) = m ((c : Thread nD τ).loc main_arg1) (ix1 ⟨8192 * t.val + i.val, h⟩) := by
  blk_ext! [iblk, V, rows_index t]

/-- The first layer's weights are read whole. -/
theorem block_w1 (c : Dev nD) (t : Fin cfg0.N) : iblk m c 2 t = m ((c : Thread nD τ).loc main_arg2) := by
  blk_ext! [iblk, V, weights_index t]

/-- The first layer's offsets are read as one row. -/
theorem block_b1 (c : Dev nD) (t : Fin cfg0.N) (i : Fin 1) (j : Fin 128) :
    iblk m c 3 t (ix2 i j) = m ((c : Thread nD τ).loc main_arg3) (ix1 j) := by
  blk_ext! [iblk, V, weights_index t]

/-- The second layer's weights are read whole. -/
theorem block_w2 (c : Dev nD) (t : Fin cfg0.N) : iblk m c 4 t = m ((c : Thread nD τ).loc main_arg4) := by
  blk_ext! [iblk, V, weights_index t]

/-- The second layer's offsets are read as one row. -/
theorem block_b2 (c : Dev nD) (t : Fin cfg0.N) (i : Fin 1) (j : Fin 128) :
    iblk m c 5 t (ix2 i j) = m ((c : Thread nD τ).loc main_arg5) (ix1 j) := by
  blk_ext! [iblk, V, weights_index t]

/-- The third layer's weights are read whole. -/
theorem block_w3 (c : Dev nD) (t : Fin cfg0.N) : iblk m c 6 t = m ((c : Thread nD τ).loc main_arg6) := by
  blk_ext! [iblk, V, weights_index t]

/-- The third layer's offsets are read as one row. -/
theorem block_b3 (c : Dev nD) (t : Fin cfg0.N) (i : Fin 1) (j : Fin 128) :
    iblk m c 7 t (ix2 i j) = m ((c : Thread nD τ).loc main_arg7) (ix1 j) := by
  blk_ext! [iblk, V, weights_index t]

/-- The weights after the mean are read whole. -/
theorem block_wr (c : Dev nD) (t : Fin cfg0.N) : iblk m c 8 t = m ((c : Thread nD τ).loc main_arg8) := by
  blk_ext! [iblk, V, weights_index t]

/-- The offsets after the mean are read as one row. -/
theorem block_br (c : Dev nD) (t : Fin cfg0.N) (i : Fin 1) (j : Fin 128) :
    iblk m c 9 t (ix2 i j) = m ((c : Thread nD τ).loc main_arg9) (ix1 j) := by
  blk_ext! [iblk, V, weights_index t]

/-- The keys' weights are read whole. -/
theorem block_wk (c : Dev nD) (t : Fin cfg0.N) : iblk m c 10 t = m ((c : Thread nD τ).loc main_arg10) := by
  blk_ext! [iblk, V, weights_index t]

/-- The keys' offsets are read as one row. -/
theorem block_bk (c : Dev nD) (t : Fin cfg0.N) (i : Fin 1) (j : Fin 256) :
    iblk m c 11 t (ix2 i j) = m ((c : Thread nD τ).loc main_arg11) (ix1 j) := by
  blk_ext! [iblk, V, weights_index t]

/-- The queries are read whole. -/
theorem block_q (c : Dev nD) (t : Fin cfg0.N) : iblk m c 12 t = m ((c : Thread nD τ).loc main_arg12) := by
  blk_ext! [iblk, V, weights_index t]

end Cert.Value
-- ==== Proof.State.lean ====
/- What the kernel keeps from one block to the next: the folded weights and the constant of the first block, and the
   running sums, counts and total. Each is read from the contents the launch found for it. -/
module

public import proofs.«01_k».proof.Proof.Params
public import proofs.«01_k».proof.Proof.Inputs
public import Idealize.ShloMosaic.Lib.Pipeline.ReadBack

@[expose] public section

noncomputable section

namespace Cert.Value

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD) (P : Params)

/-- What the kernel's scratch arrays hold once block `n` is done. -/
structure Left (κ : Fin 4 → EReal) (n : ℕ) (hn : n < cfg0.N) : Prop where
  const : ∀ j, (outsAt0 m c n hn).2.1 (ix2 0 j) = κ j
  sums : Holds (φ := .f32) (outsAt0 m c n hn).2.2.1 fun s j => less P.D (fun r => P.Z r j) (8192 * n + 8192) s.val
  counts : Holds (φ := .f32) (outsAt0 m c n hn).2.2.2.1 fun _ s => less P.D (fun _ => 1) (8192 * n + 8192) s.val
  total : Holds (φ := .f32) (outsAt0 m c n hn).2.2.2.2.1 fun _ j => ∑ r ∈ Finset.range (8192 * n + 8192), P.Z r j
  w1 : Holds (φ := .f32) (outsAt0 m c n hn).2.2.2.2.2.1 P.W1
  w1' : Holds (φ := .f32) (outsAt0 m c n hn).2.2.2.2.2.2.1 fun _ _ => 0
  w2 : Holds (φ := .f32) (outsAt0 m c n hn).2.2.2.2.2.2.2.1 P.W2
  w2' : Holds (φ := .f32) (outsAt0 m c n hn).2.2.2.2.2.2.2.2.1 fun _ _ => 0
  v : Holds (φ := .f32) (outsAt0 m c n hn).2.2.2.2.2.2.2.2.2.1 P.C
  v' : Holds (φ := .f32) (outsAt0 m c n hn).2.2.2.2.2.2.2.2.2.2.1 fun _ _ => 0
  a : Holds (φ := .f32) (outsAt0 m c n hn).2.2.2.2.2.2.2.2.2.2.2.1 P.A
  a' : Holds (φ := .f32) (outsAt0 m c n hn).2.2.2.2.2.2.2.2.2.2.2.2.1 fun _ _ => 0
  tri : Holds (φ := .f32) (outsAt0 m c n hn).2.2.2.2.2.2.2.2.2.2.2.2.2 fun i k => if k.val ≤ i.val then 1 else 0

/-- The launch's arguments hold the numbers `P`. -/
abbrev Launched : Prop :=
  P.Given (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg12))

variable {m c P}

/-- A block's rows. -/
theorem data_holds (g : Launched m c P) (t : Fin cfg0.N) :
    Holds (φ := .f32) (iblk m c 0 t) fun i j => P.X (8192 * t.val + i.val) j := by
  have ht : t.val < 4 := lt_of_lt_of_eq t.isLt N_0
  intro i j
  exact (block_data m c t i j (by omega)).trans (g.x _ j)

/-- A block's segment numbers. -/
theorem ids_hold (g : Launched m c P) (t : Fin cfg0.N) : HoldsIds (a := 8192) (iblk m c 1 t) fun i => P.D (8192 * t.val + i) := by
  have ht : t.val < 4 := lt_of_lt_of_eq t.isLt N_0
  intro i
  exact (block_ids m c t i 0 (by omega)).trans (g.d _)

variable {κ : Fin 4 → EReal}

/-- The values of block `t`'s rows, from the folded weights the block before left. -/
abbrev laterValues (m : (ℓ : Loc nD τ sig) → Buf (Elt Ideal) ℓ) (c : Dev nD) (t : Fin cfg0.N) (hp : t.val - 1 < cfg0.N) : FVec Ideal S8192x4 .f32 :=
  k0_pay38 (k0_pay36 (iblk m c 0 t) (outsAt0 m c (t.val - 1) hp).2.2.2.2.2.1 (outsAt0 m c (t.val - 1) hp).2.2.2.2.2.2.1 (iblk m c 3 t)
      (outsAt0 m c (t.val - 1) hp).2.2.2.2.2.2.2.1 (outsAt0 m c (t.val - 1) hp).2.2.2.2.2.2.2.2.1) (k0_pay37 (iblk m c 5 t))
    (outsAt0 m c (t.val - 1) hp).2.2.2.2.2.2.2.2.2.1 (outsAt0 m c (t.val - 1) hp).2.2.2.2.2.2.2.2.2.2.1

/-- A later block keeps the constant. -/
theorem later_const (t : Fin cfg0.N) (h : ¬ t.val % 4 = 0) (hp : t.val - 1 < cfg0.N) :
    (outsAt0 m c t.val t.isLt).2.1 = (outsAt0 m c (t.val - 1) hp).2.1 := by
  rw [outsAt0_B m c t h]
  dsimp only
  unfold sout0_B_2
  rfl

/-- A later block keeps the folded weights and the triangular matrix. -/
theorem later_weights (t : Fin cfg0.N) (h : ¬ t.val % 4 = 0) (hp : t.val - 1 < cfg0.N) :
    (outsAt0 m c t.val t.isLt).2.2.2.2.2 = (outsAt0 m c (t.val - 1) hp).2.2.2.2.2 := by
  rw [outsAt0_B m c t h]
  dsimp only
  unfold sout0_B_6 sout0_B_7 sout0_B_8 sout0_B_9 sout0_B_10 sout0_B_11 sout0_B_12 sout0_B_13 sout0_B_14
  rfl

end Cert.Value

end
-- ==== Proof.Later.lean ====
/- What a later block does: the contents the launch found for it, as the block's computation on what the block before left. -/
module

public import proofs.«01_k».proof.Proof.State

@[expose] public section

noncomputable section

namespace Cert.Value

open Idealize.ShloMosaic Idealize.ShloMosaic.TcCoe Idealize.SL.Sem Cert.KernelIdeal Cert.KernelIdeal.Gen
open scoped BigOperators

/-- The grid's one coordinate is the block's number. -/
theorem point_coords : ∀ t : Fin cfg0.N, (grid0.coords t 0).val = t.val := (by decide +kernel : ∀ t : Fin grid0.N, _)

variable {m : (ℓ : Loc nD τ sig) → Buf (Elt Ideal) ℓ} {c : Dev nD}

set_option maxRecDepth 20000 in
set_option maxHeartbeats 8000000 in
/-- A later block adds its part to the sums over the smaller segments. -/
theorem later_sums (t : Fin cfg0.N) (h : ¬ t.val % 4 = 0) (hp : t.val - 1 < cfg0.N) :
    (outsAt0 m c t.val t.isLt).2.2.1
      = k0_pay2 (k0_pay250 (k0_pay247 (laterValues m c t hp) (iblk m c 1 t)) k0_pay249) (outsAt0 m c (t.val - 1) hp).2.2.1 := by
  rw [outsAt0_B m c t h]
  dsimp only
  frame_out
  simp only [read_unread_whole]

set_option maxRecDepth 20000 in
set_option maxHeartbeats 8000000 in
/-- A later block adds its part to the counts of the smaller segments. -/
theorem later_counts (t : Fin cfg0.N) (h : ¬ t.val % 4 = 0) (hp : t.val - 1 < cfg0.N) :
    (outsAt0 m c t.val t.isLt).2.2.2.1
      = k0_pay3 (k0_pay251 (k0_pay248 (iblk m c 1 t)) k0_pay249) (outsAt0 m c (t.val - 1) hp).2.2.2.1 := by
  rw [outsAt0_B m c t h]
  dsimp only
  frame_out
  simp only [read_unread_whole]

set_option maxRecDepth 20000 in
set_option maxHeartbeats 8000000 in
/-- A later block carries its sum on. -/
theorem later_total (t : Fin cfg0.N) (h : ¬ t.val % 4 = 0) (hp : t.val - 1 < cfg0.N) :
    (outsAt0 m c t.val t.isLt).2.2.2.2.1 = carry (laterValues m c t hp) (outsAt0 m c (t.val - 1) hp).2.2.2.2.1 64 := by
  rw [outsAt0_B m c t h]
  dsimp only
  frame_out
  simp only [read_unread_whole]
  unfold laterValues
  generalize k0_pay36 (F := Ideal) _ _ _ _ _ _ = p
  generalize k0_pay37 (F := Ideal) _ = q
  generalize (outsAt0 m c (t.val - 1) hp).2.2.2.2.1 = o
  generalize (outsAt0 m c (t.val - 1) hp).2.2.2.2.2.2.2.2.2.1 = r
  generalize (outsAt0 m c (t.val - 1) hp).2.2.2.2.2.2.2.2.2.2.1 = s
  rw [pay1_eq]
  rfl

set_option maxRecDepth 20000 in
set_option maxHeartbeats 8000000 in
/-- A later block's result. -/
theorem later_out (t : Fin cfg0.N) (h : ¬ t.val % 4 = 0) (hp : t.val - 1 < cfg0.N) :
    (outsAt0 m c t.val t.isLt).1
      = k0_pay252 (BitVec.ofNat 32 t.val) (k0_pay34 (iblk m c 0 t)) (k0_pay35 (iblk m c 0 t))
          (scan (outsAt0 m c (t.val - 1) hp).2.2.2.2.2.2.2.2.2.2.2.2.2 (laterValues m c t hp) (outsAt0 m c (t.val - 1) hp).2.2.2.2.1)
          (k0_pay246 (iblk m c 1 t)) (k0_pay247 (laterValues m c t hp) (iblk m c 1 t)) (k0_pay248 (iblk m c 1 t)) k0_pay249
          (outsAt0 m c (t.val - 1) hp).2.2.1 (outsAt0 m c (t.val - 1) hp).2.2.2.1
          (outsAt0 m c (t.val - 1) hp).2.2.2.2.2.2.2.2.2.2.2.1 (outsAt0 m c (t.val - 1) hp).2.2.2.2.2.2.2.2.2.2.2.2.1
          (outsAt0 m c (t.val - 1) hp).2.1 := by
  rw [outsAt0_B m c t h]
  dsimp only
  frame_out
  simp only [read_unread_whole]
  unfold laterValues
  generalize (outsAt0 m c (t.val - 1) hp).2.2.2.2.1 = o
  generalize (outsAt0 m c (t.val - 1) hp).2.2.2.2.2.2.2.2.2.1 = r
  generalize (outsAt0 m c (t.val - 1) hp).2.2.2.2.2.2.2.2.2.2.1 = s
  generalize (outsAt0 m c (t.val - 1) hp).2.2.2.2.2.2.2.2.2.2.2.1 = a
  generalize (outsAt0 m c (t.val - 1) hp).2.2.2.2.2.2.2.2.2.2.2.2.1 = a'
  generalize (outsAt0 m c (t.val - 1) hp).2.2.2.2.2.2.2.2.2.2.2.2.2 = tri
  generalize (outsAt0 m c (t.val - 1) hp).2.1 = k
  generalize (outsAt0 m c (t.val - 1) hp).2.2.1 = ls
  generalize (outsAt0 m c (t.val - 1) hp).2.2.2.1 = lc
  generalize k0_pay36 (F := Ideal) _ _ _ _ _ _ = p
  generalize k0_pay37 (F := Ideal) _ = q
  generalize iblk m c 0 t = x
  generalize iblk m c 1 t = d
  rw [point_coords t]
  rfl

end Cert.Value

end
-- ==== Proof.First.lean ====
/- What the first block does: it folds the weights, makes the constant row, and starts the running sums from zero. -/
module

public import proofs.«01_k».proof.Proof.Later

@[expose] public section

noncomputable section

namespace Cert.Value

open Idealize.ShloMosaic Idealize.ShloMosaic.TcCoe Idealize.SL.Sem Cert.KernelIdeal Cert.KernelIdeal.Gen
open scoped BigOperators

variable (m : (ℓ : Loc nD τ sig) → Buf (Elt Ideal) ℓ) (c : Dev nD)

/-- The queries' four rows, as loaded. -/
def queryRow (t : Fin cfg0.N) : Fin 4 → FVec Ideal S1x64 .f32 :=
  ![View.ld (iblk m c 12 t) (Rect.unit ![0, 0] ![1, 64] inb_S4x64_S1x64_0_0),
    View.ld (iblk m c 12 t) (Rect.unit ![1, 0] ![1, 64] inb_S4x64_S1x64_1_0),
    View.ld (iblk m c 12 t) (Rect.unit ![2, 0] ![1, 64] inb_S4x64_S1x64_2_0),
    View.ld (iblk m c 12 t) (Rect.unit ![3, 0] ![1, 64] inb_S4x64_S1x64_3_0)]

/-- The key offsets' four parts, as loaded. -/
def offsetRow (t : Fin cfg0.N) : Fin 4 → FVec Ideal S1x64 .f32 :=
  ![View.ld (iblk m c 11 t) (Rect.unit ![0, 0] ![1, 64] inb_S1x256_S1x64_0_0),
    View.ld (iblk m c 11 t) (Rect.unit ![0, 64] ![1, 64] inb_S1x256_S1x64_0_64),
    View.ld (iblk m c 11 t) (Rect.unit ![0, 128] ![1, 64] inb_S1x256_S1x64_0_128),
    View.ld (iblk m c 11 t) (Rect.unit ![0, 192] ![1, 64] inb_S1x256_S1x64_0_192)]

/-- The key weights' four column blocks, as loaded. -/
def keyBlock (t : Fin cfg0.N) : Fin 4 → FVec Ideal S160x64 .f32 :=
  ![View.ld (iblk m c 10 t) (Rect.unit ![0, 0] ![160, 64] inb_S160x256_S160x64_0_0),
    View.ld (iblk m c 10 t) (Rect.unit ![0, 64] ![160, 64] inb_S160x256_S160x64_0_64),
    View.ld (iblk m c 10 t) (Rect.unit ![0, 128] ![160, 64] inb_S160x256_S160x64_0_128),
    View.ld (iblk m c 10 t) (Rect.unit ![0, 192] ![160, 64] inb_S160x256_S160x64_0_192)]

/-- The folded weights. -/
abbrev folded (t : Fin cfg0.N) : FVec Ideal S160x4 .f32 :=
  k0_pay8 (keyBlock m c t 0) (queryRow m c t 0) (keyBlock m c t 1) (queryRow m c t 1) (keyBlock m c t 2) (queryRow m c t 2)
    (keyBlock m c t 3) (queryRow m c t 3)

/-- The folded weights of the encoding. -/
abbrev foldedLayer (t : Fin cfg0.N) : FVec Ideal S128x4 .f32 := k0_pay12 (folded m c t) (iblk m c 8 t) (iblk m c 6 t)

/-- The values of the first block's rows. -/
abbrev firstValues (t : Fin cfg0.N) : FVec Ideal S8192x4 .f32 :=
  k0_pay38 (k0_pay36 (iblk m c 0 t) (k0_pay21 (iblk m c 2 t)) (k0_pay22 (iblk m c 2 t)) (iblk m c 3 t)
      (k0_pay24 (iblk m c 4 t)) (k0_pay25 (iblk m c 4 t))) (k0_pay37 (iblk m c 5 t))
    (k0_pay28 (foldedLayer m c t)) (k0_pay29 (k0_pay27 (foldedLayer m c t)))

/-- The constant row. -/
abbrev constantRow (t : Fin cfg0.N) : FVec Ideal S1x4 .f32 :=
  k0_pay15 (k0_pay4 (queryRow m c t 0) (offsetRow m c t 0)) (k0_pay5 (queryRow m c t 1) (offsetRow m c t 1))
    (k0_pay6 (queryRow m c t 2) (offsetRow m c t 2)) (k0_pay7 (queryRow m c t 3) (offsetRow m c t 3))
    (folded m c t) (iblk m c 8 t) (iblk m c 7 t) (iblk m c 9 t)

variable {m c}

/-- Row `h` of the queries. -/
theorem queryRow_apply (t : Fin cfg0.N) (h : Fin 4) (i : Fin 1) (d : Fin 64) :
    queryRow m c t h (ix2 i d) = m ((c : Thread nD τ).loc main_arg12) (ix2 h d) := by
  rcases (show h = 0 ∨ h = 1 ∨ h = 2 ∨ h = 3 by omega) with rfl | rfl | rfl | rfl
  all_goals
    dsimp only [queryRow, Matrix.cons_val]
    blk_ext! [iblk, V, weights_index t]

/-- A load of 64 lanes from lane `64 h` on reads part `h` of the key offsets. -/
theorem offset_load (t : Fin cfg0.N) (h : Fin 4) (inb : ∀ a, (![0, 64 * h.val] : Fin 2 → ℕ) a + (![1, 64] : Fin 2 → ℕ) a ≤ S1x256.size a)
    (i : Fin 1) (d : Fin 64) :
    View.ld (iblk m c 11 t) (Rect.unit (s := S1x256) ![0, 64 * h.val] ![1, 64] inb) (ix2 i d)
      = m ((c : Thread nD τ).loc main_arg11) (ix1 (col h d)) := by
  refine (View.ld_unit_apply_of (S := S1x256) (iblk m c 11 t) _ _ inb _ (ix2 i (col h d)) fun a => ?_).trans (block_bk m c t i (col h d))
  fin_cases a
  · exact (Nat.zero_add _).symm
  · rfl

/-- Part `h` of the key offsets. -/
theorem offsetRow_apply (t : Fin cfg0.N) (h : Fin 4) (i : Fin 1) (d : Fin 64) :
    offsetRow m c t h (ix2 i d) = m ((c : Thread nD τ).loc main_arg11) (ix1 (col h d)) := by
  rcases (show h = 0 ∨ h = 1 ∨ h = 2 ∨ h = 3 by omega) with rfl | rfl | rfl | rfl
  · exact offset_load t 0 inb_S1x256_S1x64_0_0 i d
  · exact offset_load t 1 inb_S1x256_S1x64_0_64 i d
  · exact offset_load t 2 inb_S1x256_S1x64_0_128 i d
  · exact offset_load t 3 inb_S1x256_S1x64_0_192 i d

/-- Column block `h` of the key weights. -/
theorem keyBlock_apply (t : Fin cfg0.N) (h : Fin 4) (r : Fin 160) (d : Fin 64) :
    keyBlock m c t h (ix2 r d) = m ((c : Thread nD τ).loc main_arg10) (ix2 r (col h d)) := by
  rcases (show h = 0 ∨ h = 1 ∨ h = 2 ∨ h = 3 by omega) with rfl | rfl | rfl | rfl
  all_goals
    dsimp only [keyBlock, Matrix.cons_val]
    blk_ext! [iblk, V, weights_index t, col]

/-- The first block keeps the constant row. -/
theorem first_const (t : Fin cfg0.N) (h : t.val % 4 = 0) : (outsAt0 m c t.val t.isLt).2.1 = constantRow m c t := by
  rw [outsAt0_A m c t h]
  dsimp only
  frame_out
  rfl

/-- The first block keeps the folded weights and the triangular matrix. -/
theorem first_weights (t : Fin cfg0.N) (h : t.val % 4 = 0) :
    (outsAt0 m c t.val t.isLt).2.2.2.2.2
      = (k0_pay21 (iblk m c 2 t), k0_pay22 (iblk m c 2 t), k0_pay24 (iblk m c 4 t), k0_pay25 (iblk m c 4 t),
          k0_pay28 (foldedLayer m c t), k0_pay29 (k0_pay27 (foldedLayer m c t)), k0_pay31 (k0_pay9 (folded m c t)),
          k0_pay32 (k0_pay9 (folded m c t)), k0_pay33 (F := Ideal)) := by
  rw [outsAt0_A m c t h]
  dsimp only
  refine Prod.ext ?_ (Prod.ext ?_ (Prod.ext ?_ (Prod.ext ?_ (Prod.ext ?_ (Prod.ext ?_ (Prod.ext ?_ (Prod.ext ?_ ?_)))))))
  all_goals
    dsimp only
    frame_out
    try rfl

end Cert.Value

end
-- ==== Proof.Start.lean ====
/- What the first block leaves of its sums, counts and total, and its result. -/
module

public import proofs.«01_k».proof.Proof.First

@[expose] public section

noncomputable section

namespace Cert.Value

open Idealize.ShloMosaic Idealize.ShloMosaic.TcCoe Idealize.SL.Sem Cert.KernelIdeal Cert.KernelIdeal.Gen
open scoped BigOperators

variable {m : (ℓ : Loc nD τ sig) → Buf (Elt Ideal) ℓ} {c : Dev nD}

set_option maxRecDepth 20000 in
set_option maxHeartbeats 8000000 in
/-- The first block's sums over the smaller segments. -/
theorem first_sums (t : Fin cfg0.N) (h : t.val % 4 = 0) :
    (outsAt0 m c t.val t.isLt).2.2.1 = k0_pay2 (k0_pay250 (k0_pay247 (firstValues m c t) (iblk m c 1 t)) k0_pay249) (k0_pay16 (F := Ideal)) := by
  rw [outsAt0_A m c t h]
  dsimp only
  frame_out
  rfl

set_option maxRecDepth 20000 in
set_option maxHeartbeats 8000000 in
/-- The first block's counts of the smaller segments. -/
theorem first_counts (t : Fin cfg0.N) (h : t.val % 4 = 0) :
    (outsAt0 m c t.val t.isLt).2.2.2.1 = k0_pay3 (k0_pay251 (k0_pay248 (iblk m c 1 t)) k0_pay249) (k0_pay18 (F := Ideal) k0_pay17) := by
  rw [outsAt0_A m c t h]
  dsimp only
  frame_out

set_option maxRecDepth 20000 in
set_option maxHeartbeats 8000000 in
/-- The first block's sum. -/
theorem first_total (t : Fin cfg0.N) (h : t.val % 4 = 0) :
    (outsAt0 m c t.val t.isLt).2.2.2.2.1 = carry (firstValues m c t) k0_pay19 64 := by
  rw [outsAt0_A m c t h]
  dsimp only
  frame_out
  unfold firstValues foldedLayer folded queryRow keyBlock
  dsimp only [Matrix.cons_val]
  generalize k0_pay36 (F := Ideal) _ _ _ _ _ _ = p
  generalize k0_pay37 (F := Ideal) _ = q
  generalize k0_pay12 (F := Ideal) _ _ _ = v
  generalize k0_pay28 v = r
  generalize k0_pay29 (k0_pay27 v) = s
  generalize k0_pay19 (F := Ideal) = o
  rw [pay1_eq]
  rfl

set_option maxRecDepth 20000 in
set_option maxHeartbeats 8000000 in
/-- The first block's result. -/
theorem first_out (t : Fin cfg0.N) (h : t.val % 4 = 0) :
    (outsAt0 m c t.val t.isLt).1
      = k0_pay252 (BitVec.ofNat 32 t.val) (k0_pay34 (iblk m c 0 t)) (k0_pay35 (iblk m c 0 t))
          (scan k0_pay33 (firstValues m c t) k0_pay19) (k0_pay246 (iblk m c 1 t)) (k0_pay247 (firstValues m c t) (iblk m c 1 t))
          (k0_pay248 (iblk m c 1 t)) k0_pay249 (k0_pay16 (F := Ideal)) (k0_pay18 (F := Ideal) k0_pay17) (k0_pay31 (k0_pay9 (folded m c t)))
          (k0_pay32 (k0_pay9 (folded m c t))) (constantRow m c t) := by
  rw [outsAt0_A m c t h]
  dsimp only
  frame_out
  unfold firstValues foldedLayer constantRow folded queryRow keyBlock offsetRow
  dsimp only [Matrix.cons_val]
  generalize k0_pay36 (F := Ideal) _ _ _ _ _ _ = p
  generalize k0_pay37 (F := Ideal) _ = q
  generalize k0_pay12 (F := Ideal) _ _ _ = v
  generalize k0_pay28 v = r
  generalize k0_pay29 (k0_pay27 v) = s
  generalize k0_pay19 (F := Ideal) = o
  generalize k0_pay33 (F := Ideal) = tri
  generalize k0_pay8 (F := Ideal) _ _ _ _ _ _ _ _ = k
  generalize k0_pay15 (F := Ideal) _ _ _ _ _ _ _ _ = e
  generalize iblk m c 0 t = x
  generalize iblk m c 1 t = d
  rw [point_coords t]
  rfl

end Cert.Value

end
-- ==== Proof.Blocks.lean ====
/- What every block leaves and computes, by induction on the block: after block `n` the kernel's arrays hold the sums,
   counts and total of the first `8192 (n + 1)` rows, and row `i` of block `n` of the result is the closed form. -/
module

public import proofs.«01_k».proof.Proof.Start

@[expose] public section

noncomputable section

namespace Cert.Value

open Idealize.ShloMosaic Idealize.ShloMosaic.TcCoe Idealize.SL.Sem Cert.KernelIdeal Cert.KernelIdeal.Gen
open scoped BigOperators

variable {m : (ℓ : Loc nD τ sig) → Buf (Elt Ideal) ℓ} {c : Dev nD} {P : Params}

/-- The constant of head `h`. -/
def constantOf (m : (ℓ : Loc nD τ sig) → Buf (Elt Ideal) ℓ) (c : Dev nD) (P : Params) (h : Fin 4) : EReal :=
  ((P.shift h : ℝ) : EReal) + P.offset (m ((c : Thread nD τ).loc main_arg11)) h

/-- Nothing comes before the first row. -/
theorem less_zero (D : ℕ → ℕ) (f : ℕ → ℝ) (s : ℕ) : less D f 0 s = 0 := by
  unfold less
  rw [Finset.range_zero, Finset.sum_empty]

/-- The first layer's weights, in every block. -/
theorem w1_holds (g : Launched m c P) (t : Fin cfg0.N) : Holds (φ := .f32) (iblk m c 2 t) P.W1 := by
  rw [block_w1]
  exact g.w1

/-- The second layer's weights. -/
theorem w2_holds (g : Launched m c P) (t : Fin cfg0.N) : Holds (φ := .f32) (iblk m c 4 t) P.W2 := by
  rw [block_w2]
  exact g.w2

/-- The third layer's weights. -/
theorem w3_holds (g : Launched m c P) (t : Fin cfg0.N) : Holds (φ := .f32) (iblk m c 6 t) P.W3 := by
  rw [block_w3]
  exact g.w3

/-- The weights after the mean. -/
theorem wr_holds (g : Launched m c P) (t : Fin cfg0.N) : Holds (φ := .f32) (iblk m c 8 t) P.Wr := by
  rw [block_wr]
  exact g.wr

/-- The first layer's offsets. -/
theorem b1_holds (g : Launched m c P) (t : Fin cfg0.N) : Holds (φ := .f32) (iblk m c 3 t) fun _ j => P.B1 j :=
  fun i j => (block_b1 m c t i j).trans (g.b1 j)

/-- The second layer's offsets. -/
theorem b2_holds (g : Launched m c P) (t : Fin cfg0.N) : Holds (φ := .f32) (iblk m c 5 t) fun _ j => P.B2 j :=
  fun i j => (block_b2 m c t i j).trans (g.b2 j)

/-- The third layer's offsets. -/
theorem b3_holds (g : Launched m c P) (t : Fin cfg0.N) : Holds (φ := .f32) (iblk m c 7 t) fun _ j => P.B3 j :=
  fun i j => (block_b3 m c t i j).trans (g.b3 j)

/-- The offsets after the mean. -/
theorem br_holds (g : Launched m c P) (t : Fin cfg0.N) : Holds (φ := .f32) (iblk m c 9 t) fun _ j => P.Br j :=
  fun i j => (block_br m c t i j).trans (g.br j)

/-- A column block of the key weights holds its columns. -/
theorem keyBlock_holds (g : Launched m c P) (t : Fin cfg0.N) (h : Fin 4) : Holds (keyBlock m c t h) fun r d => P.K r (col h d) :=
  fun r d => (keyBlock_apply t h r d).trans (g.wk _ _)

/-- A row of the queries holds its numbers. -/
theorem queryRow_holds (g : Launched m c P) (t : Fin cfg0.N) (h : Fin 4) : Holds (queryRow m c t h) fun _ d => P.Wq h d :=
  fun i d => (queryRow_apply t h i d).trans (g.wq _ _)

/-- The folded weights hold the folded numbers. -/
theorem folded_holds (g : Launched m c P) (t : Fin cfg0.N) : Holds (folded m c t) (fold P.K P.Wq) :=
  pay8_holds (keyBlock_holds g t 0) (keyBlock_holds g t 1) (keyBlock_holds g t 2) (keyBlock_holds g t 3)
    (queryRow_holds g t 0) (queryRow_holds g t 1) (queryRow_holds g t 2) (queryRow_holds g t 3)

/-- Folded through the third layer. -/
theorem foldedLayer_holds (g : Launched m c P) (t : Fin cfg0.N) : Holds (foldedLayer m c t) P.C :=
  pay12_holds (folded_holds g t) (wr_holds g t) (w3_holds g t)

/-- The folded weights of the row's own data. -/
theorem foldedRow_holds (g : Launched m c P) (t : Fin cfg0.N) : Holds (k0_pay9 (folded m c t)) P.A :=
  pay9_holds (folded_holds g t)

/-- The first block's values are the row values. -/
theorem firstValues_holds (g : Launched m c P) (t : Fin cfg0.N) : Holds (firstValues m c t) fun i j => P.Z (8192 * t.val + i.val) j :=
  values_holds (data_holds g t) (pay21_holds (w1_holds g t)) (pay22_holds (w1_holds g t)) (b1_holds g t) (pay24_holds (w2_holds g t))
    (pay25_holds (w2_holds g t)) (b2_holds g t) (pay28_holds (foldedLayer_holds g t)) (pay29_holds (foldedLayer_holds g t))

/-- The constant row holds each head's constant. -/
theorem constantRow_apply (g : Launched m c P) (t : Fin cfg0.N) (h : Fin 4) : constantRow m c t (ix2 0 h) = constantOf m c P h := by
  refine (pay15_apply (folded_holds g t) (wr_holds g t) (b3_holds g t) (br_holds g t) (offsetRow m c t) (queryRow m c t) h).trans ?_
  simp only [offsetRow_apply, queryRow_holds g t _ _ _]
  rfl

/-- The sums over the smaller segments start at nothing. -/
theorem start_sums {n : ℕ} (hn : n = 0) : Holds (k0_pay16 (F := Ideal)) fun s j => less P.D (fun r => P.Z r j) n s.val := by
  intro s j
  dsimp only
  rw [hn, less_zero]
  exact pay16_holds s j

/-- The counts start at nothing. -/
theorem start_counts {n : ℕ} (hn : n = 0) : Holds (k0_pay18 (F := Ideal) k0_pay17) fun _ s => less P.D (fun _ => 1) n s.val := by
  intro u s
  dsimp only
  rw [hn, less_zero]
  exact pay18_holds u s

/-- The total starts at nothing. -/
theorem start_total {n : ℕ} (hn : n = 0) : Holds (k0_pay19 (F := Ideal)) fun _ j => ∑ r ∈ Finset.range n, P.Z r j := by
  intro u j
  dsimp only
  rw [hn, Finset.range_zero, Finset.sum_empty]
  exact pay19_holds u j

/-- What the first block leaves. -/
theorem first_left (g : Launched m c P) (t : Fin cfg0.N) (h : t.val % 4 = 0) : Left m c P (constantOf m c P) t.val t.isLt := by
  have ht : t.val < 4 := lt_of_lt_of_eq t.isLt N_0
  have h0 : 8192 * t.val = 0 := by omega
  have hw := first_weights (m := m) (c := c) t h
  refine ⟨fun j => ?_, ?_, ?_, ?_, ?_, ?_, ?_, ?_, ?_, ?_, ?_, ?_, ?_⟩
  · rw [first_const t h]
    exact constantRow_apply g t j
  · rw [first_sums t h]
    exact sums_left (firstValues_holds g t) (ids_hold g t) g.small (start_sums h0)
  · rw [first_counts t h]
    exact counts_left (ids_hold g t) g.small (start_counts h0)
  · rw [first_total t h]
    exact carry_holds (firstValues_holds g t) (start_total h0) 64 (le_refl _)
  all_goals rw [hw]
  · exact pay21_holds (w1_holds g t)
  · exact pay22_holds (w1_holds g t)
  · exact pay24_holds (w2_holds g t)
  · exact pay25_holds (w2_holds g t)
  · exact pay28_holds (foldedLayer_holds g t)
  · exact pay29_holds (foldedLayer_holds g t)
  · exact pay31_holds (foldedRow_holds g t)
  · exact pay32_holds (foldedRow_holds g t)
  · exact pay33_holds

/-- The values of a later block's rows. -/
theorem laterValues_holds (g : Launched m c P) {κ : Fin 4 → EReal} (t : Fin cfg0.N) (hp : t.val - 1 < cfg0.N) (l : Left m c P κ (t.val - 1) hp) :
    Holds (laterValues m c t hp) fun i j => P.Z (8192 * t.val + i.val) j :=
  values_holds (data_holds g t) l.w1 l.w1' (b1_holds g t) l.w2 l.w2' (b2_holds g t) l.v l.v'

/-- What a later block leaves, from what the block before left. -/
theorem later_left (g : Launched m c P) {κ : Fin 4 → EReal} (t : Fin cfg0.N) (h : ¬ t.val % 4 = 0) (hp : t.val - 1 < cfg0.N)
    (l : Left m c P κ (t.val - 1) hp) : Left m c P κ t.val t.isLt := by
  have e : 8192 * (t.val - 1) + 8192 = 8192 * t.val := by omega
  have ls := l.sums
  have lc := l.counts
  have lt := l.total
  rw [e] at ls lc lt
  have hw := later_weights (m := m) (c := c) t h hp
  refine ⟨fun j => ?_, ?_, ?_, ?_, ?_, ?_, ?_, ?_, ?_, ?_, ?_, ?_, ?_⟩
  · rw [later_const t h hp]
    exact l.const j
  · rw [later_sums t h hp]
    exact sums_left (laterValues_holds g t hp l) (ids_hold g t) g.small ls
  · rw [later_counts t h hp]
    exact counts_left (ids_hold g t) g.small lc
  · rw [later_total t h hp]
    exact carry_holds (laterValues_holds g t hp l) lt 64 (le_refl _)
  all_goals rw [hw]
  · exact l.w1
  · exact l.w1'
  · exact l.w2
  · exact l.w2'
  · exact l.v
  · exact l.v'
  · exact l.a
  · exact l.a'
  · exact l.tri

/-- What every block leaves. -/
theorem left (g : Launched m c P) : ∀ (n : ℕ) (hn : n < cfg0.N), Left m c P (constantOf m c P) n hn
  | 0, hn => first_left g ⟨0, hn⟩ rfl
  | n + 1, hn => later_left g ⟨n + 1, hn⟩ (by have := lt_of_lt_of_eq hn N_0; dsimp only; omega) (Nat.lt_of_succ_lt hn) (left g n (Nat.lt_of_succ_lt hn))

/-- Row `i` of the result: the row's own data and the mean of the values over its segment so far, and the constant. -/
def rowResult (P : Params) (i : ℕ) (h : Fin 4) : ℝ := mmul P.X P.A i h + meanOf P.Z (fun i => startOf P.D (P.D i)) i h

/-- What every block computes. -/
theorem block_result (g : Launched m c P) (t : Fin cfg0.N) (i : Fin 8192) (j : Fin 4) :
    (outsAt0 m c t.val t.isLt).1 (ix2 i j) = ((rowResult P (8192 * t.val + i.val) j : ℝ) : EReal) + constantOf m c P j := by
  have ht : t.val < 4 := lt_of_lt_of_eq t.isLt N_0
  by_cases h : t.val % 4 = 0
  · have h0 : 8192 * t.val = 0 := by omega
    rw [first_out t h, ← constantRow_apply g t j]
    exact result_apply ht (data_holds g t) (firstValues_holds g t) (ids_hold g t) g.small g.sorted (start_sums h0) (start_counts h0)
      (scan_holds pay33_holds (firstValues_holds g t) (start_total h0)) (pay31_holds (foldedRow_holds g t)) (pay32_holds (foldedRow_holds g t)) _ i j
  · have hp : t.val - 1 < cfg0.N := lt_of_le_of_lt (Nat.sub_le _ _) t.isLt
    have l := left g (t.val - 1) hp
    have e : 8192 * (t.val - 1) + 8192 = 8192 * t.val := by omega
    have ls := l.sums
    have lc := l.counts
    have lt := l.total
    rw [e] at ls lc lt
    rw [later_out t h hp, ← l.const j]
    exact result_apply ht (data_holds g t) (laterValues_holds g t hp l) (ids_hold g t) g.small g.sorted ls lc
      (scan_holds l.tri (laterValues_holds g t hp l) lt) l.a l.a' _ i j

end Cert.Value

end
-- ==== Proof.Equation.lean ====
/- The equation between the two programs: folding the last two products through the mean, the product after it and the
   third layer changes nothing, since the mean of affine images is the affine image of the mean. -/
module

public import proofs.«01_k».proof.Proof.Params

@[expose] public section

noncomputable section

namespace Cert.Value

open scoped BigOperators

/-- A sum over a product of matrices, the matrix in the middle moved to the other side. -/
theorem sum_mmul {p q : ℕ} (f : Fin p → ℝ) (w : Fin p → Fin q → ℝ) (v : Fin q → Fin 4 → ℝ) (h : Fin 4) :
    ∑ l, (∑ k, f k * w k l) * v l h = ∑ k, f k * mmul w v k h := by
  simp only [mmul, Finset.sum_mul, Finset.mul_sum]
  rw [Finset.sum_comm]
  exact Finset.sum_congr rfl fun _ _ => Finset.sum_congr rfl fun _ _ => mul_assoc _ _ _

/-- The mean of rows that are affine in other rows is affine in their mean. -/
theorem mean_affine {p : ℕ} (E : ℕ → Fin p → ℝ) (v : Fin p → Fin 4 → ℝ) (Z : ℕ → Fin 4 → ℝ) (b : ℝ) (h : Fin 4)
    (hE : ∀ r, ∑ l, E r l * v l h = Z r h + b) (T : ℕ → ℕ) (i : ℕ) (hT : T i ≤ i) :
    ∑ l, meanOf E T i l * v l h = meanOf Z T i h + b := by
  have hs : ∀ n, ∑ l, (∑ r ∈ Finset.range n, E r l) * v l h = (∑ r ∈ Finset.range n, Z r h) + n * b := fun n => by
    simp only [Finset.sum_mul]
    rw [Finset.sum_comm]
    simp only [hE, Finset.sum_add_distrib, Finset.sum_const, Finset.card_range, nsmul_eq_mul]
  have hn : ((i - T i + 1 : ℕ) : ℝ) = (i : ℝ) + 1 - T i := by
    rw [Nat.cast_add, Nat.cast_sub hT, Nat.cast_one]
    ring
  have h0 : ((i - T i + 1 : ℕ) : ℝ) ≠ 0 := Nat.cast_ne_zero.2 (Nat.succ_ne_zero _)
  have e : ∑ l, meanOf E T i l * v l h
      = ((∑ l, (∑ r ∈ Finset.range (i + 1), E r l) * v l h) - ∑ l, (∑ r ∈ Finset.range (T i), E r l) * v l h)
        * (1 / ((i - T i + 1 : ℕ) : ℝ)) := by
    rw [← Finset.sum_sub_distrib, Finset.sum_mul]
    refine Finset.sum_congr rfl fun l _ => ?_
    unfold meanOf
    ring
  rw [e, hs, hs]
  unfold meanOf
  push_cast at hn h0 ⊢
  rw [hn] at h0 ⊢
  field_simp
  ring

variable (P : Params)

/-- What the reference's scores are, over the kernel's folded weights. -/
theorem scores_real (T : ℕ → ℕ) (i : ℕ) (hT : T i ≤ i) (h : Fin 4) :
    (∑ c, Ref.keyOf P.X (fun i l => mmul (meanOf (Ref.encode P.X P.W1 P.B1 P.W2 P.B2 P.W3 P.B3) T) P.Wr i l + P.Br l) P.K i (col h c) * P.Wq h c)
        * (1 / 8)
      = mmul P.X P.A i h + meanOf P.Z T i h + P.shift h := by
  have split : ∀ R : Fin 128 → ℝ,
      (∑ c, ((∑ k : Fin 32, P.X i k * P.K ⟨k.val, by omega⟩ (col h c)) + ∑ k : Fin 128, R k * P.K ⟨32 + k.val, by omega⟩ (col h c)) * P.Wq h c) * (1 / 8)
        = mmul P.X P.A i h + ∑ k, R k * P.V2 k h := fun R => by
    simp only [add_mul, Finset.sum_add_distrib, mmul, Params.A, Params.V2, fold, Finset.sum_mul, Finset.mul_sum]
    congr 1 <;>
    · rw [Finset.sum_comm]
      exact Finset.sum_congr rfl fun _ _ => Finset.sum_congr rfl fun _ _ => by ring
  refine (split _).trans ?_
  have hE : ∀ r, ∑ l, Ref.encode P.X P.W1 P.B1 P.W2 P.B2 P.W3 P.B3 r l * mmul P.Wr P.V2 l h
      = P.Z r h + ∑ l, P.B3 l * mmul P.Wr P.V2 l h := fun r => by
    simp only [Ref.encode, add_mul, Finset.sum_add_distrib]
    congr 1
    exact sum_mmul _ _ _ _
  simp only [add_mul, Finset.sum_add_distrib]
  rw [show ∑ k, mmul (meanOf (Ref.encode P.X P.W1 P.B1 P.W2 P.B2 P.W3 P.B3) T) P.Wr i k * P.V2 k h
      = ∑ k, meanOf (Ref.encode P.X P.W1 P.B1 P.W2 P.B2 P.W3 P.B3) T i k * mmul P.Wr P.V2 k h from sum_mmul _ _ _ _,
    mean_affine _ _ P.Z _ h hE T i hT]
  unfold Params.shift
  ring

end Cert.Value

end
-- ==== Proof.Result.lean ====
/- The kernel's result array: its closed form at every row and head, and that it is the reference's result. -/
module

public import proofs.«01_k».proof.Proof.Blocks
public import proofs.«01_k».proof.Proof.Equation

@[expose] public section

noncomputable section

namespace Cert.Value

open Idealize.ShloMosaic Idealize.ShloMosaic.TcCoe Idealize.SL.Sem Cert.KernelIdeal Cert.KernelIdeal.Gen
open scoped BigOperators

variable {m : (ℓ : Loc nD τ sig) → Buf (Elt Ideal) ℓ} {c : Dev nD} {P : Params}

/-- Where row `i` and head `h` lie in their block. -/
theorem place_eq (i : Fin 32768) (h : Fin 4) :
    Cert.KernelIdeal.Value.loc13Of (ix2 i h) = ix2 (⟨i.val % 8192, Nat.mod_lt _ (Nat.succ_pos _)⟩ : Fin 8192) h := by
  funext a
  match a with
  | ⟨0, _⟩ => rfl
  | ⟨1, _⟩ => exact Fin.ext (Nat.mod_eq_of_lt h.isLt)

/-- Row `i` of the result is row `i % 8192` of what block `i / 8192` computes. -/
theorem result_block (i : Fin 32768) (h : Fin 4) (n : ℕ) (hn : n < cfg0.N) (e : i.val / 8192 = n) :
    Cert.KernelIdeal.Value.G13 m c (ix2 i h)
      = (outsAt0 m c n hn).1 (ix2 (⟨i.val % 8192, Nat.mod_lt _ (Nat.succ_pos _)⟩ : Fin 8192) h) := by
  have hp : Cert.KernelIdeal.Value.pt13Of (ix2 i h) = n := by
    have h0 : h.val / 4 = 0 := Nat.div_eq_of_lt h.isLt
    show 1 * (i.val / 8192 - 0) + 1 * (h.val / 4 - 0) = n
    omega
  unfold Cert.KernelIdeal.Value.G13
  rw [dif_pos (lt_of_eq_of_lt hp hn), Cert.KernelIdeal.Value.fold0_congr m c _ _ n (by omega) hp, ← Cert.KernelIdeal.Value.outsAt0_sweep m c n hn,
    place_eq]

/-- The kernel's result at every row and head. -/
theorem kernel_result (g : Launched m c P) (i : Fin 32768) (h : Fin 4) :
    Cert.KernelIdeal.Value.G13 m c (ix2 i h) = ((rowResult P i.val h : ℝ) : EReal) + constantOf m c P h := by
  have hi : i.val / 8192 < 4 := Nat.div_lt_of_lt_mul i.isLt
  have hn : i.val / 8192 < cfg0.N := lt_of_lt_of_eq hi N_0.symm
  rw [result_block i h (i.val / 8192) hn rfl, block_result g ⟨i.val / 8192, hn⟩]
  dsimp only
  rw [Nat.div_add_mod]

/-- The kernel computes the reference's result. -/
theorem kernel_eq (g : Launched m c P) :
    Cert.KernelIdeal.Value.G13 m c
      = Ref.whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  have hs : ∀ r < 32768, startOf P.D (P.D r) ≤ r := fun r hr => startOf_le_row g.sorted hr
  refine ext_rows (φ := .f32) fun i h => ?_
  refine (kernel_result g i h).trans (Eq.symm ?_)
  refine (Ref.whole_apply _ g.x g.d g.small hs g.w1 g.b1 g.w2 g.b2 g.w3 g.b3 g.wr g.br g.wk g.wq i h).trans ?_
  rw [scores_real P (fun r => startOf P.D (P.D r)) i.val (hs _ i.isLt) h, EReal.coe_add, add_assoc]
  rfl

end Cert.Value

end
-- ==== Proof.Admissible.lean ====
/- What the precondition gives: every argument but the keys' offsets holds real numbers, and the segments are numbers
   below 16 in order. -/
module

public import proofs.«01_k».proof.Proof.Params
public import proofs.«01_k».proof.Proof.Gen.Pre_admissible
public import Idealize.ShloMosaic.Lib.ReduceAll
public import Idealize.ShloMosaic.Lib.WordCmp

@[expose] public section

noncomputable section

namespace Cert.Value

open Idealize.ShloMosaic

/-- A number whose size is below infinity is real. -/
theorem real_of_lt (x : Ideal .f32) (h : FloatOps.cmpf .olt (FloatOps.hostAbsf x) (FloatOps.ofBits (F := Ideal) .f32 0x7F800000#32) = 1#1) :
    x = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine (EReal.coe_toReal (ne_of_lt hlt.1) fun hb => ?_).symm
  rw [hb] at hlt
  simp at hlt

/-- An array all of whose entries have sizes below infinity holds real numbers. -/
theorem real_entries {s u : Shape} {axes : List (Fin s.rank)} (x : FVec Ideal s .f32) (bound : FVec Ideal s .f32) (hb : ∀ i, bound i = FloatOps.ofBits (F := Ideal) .f32 0x7F800000#32)
    (init : u.Idx → BitVec 1) (h : s.ReducesTo axes ⟨0, ![]⟩) (hu : 0 < u.numel) (j)
    (e : Host.reduce IntOp.andi (cmpf .olt (Host.absf x) bound) init h hu j = 1#1) (i : s.Idx) :
    x i = ((EReal.toReal (x i) : ℝ) : EReal) := by
  haveI : Subsingleton (⟨0, ![]⟩ : Shape).Idx := ⟨fun a b => funext fun k => k.elim0⟩
  have := Host.reduce_andi_all _ _ _ _ j e i
  refine real_of_lt (x i) ?_
  rw [← hb i]
  exact this

/-- The row `r`, or the last row beyond the end. -/
def clampRow (r : ℕ) : Fin 32768 := ⟨min r 32767, by omega⟩

theorem clampRow_val (i : Fin 32768) : clampRow i.val = i := Fin.ext (Nat.min_eq_left (by omega))

open Cert.Pre_admissible in
/-- The real numbers the arguments hold, when the precondition holds. -/
def paramsOf (x : FVec Ideal S32768x32 .f32) (d : IVec S32768 32) (w1 : FVec Ideal S32x128 .f32) (b1 : FVec Ideal S128 .f32)
    (w2 : FVec Ideal S128x128 .f32) (b2 : FVec Ideal S128 .f32) (w3 : FVec Ideal S128x128 .f32) (b3 : FVec Ideal S128 .f32)
    (wr : FVec Ideal S128x128 .f32) (br : FVec Ideal S128 .f32) (wk : FVec Ideal S160x256 .f32) (wq : FVec Ideal S4x64 .f32) : Params where
  X r j := EReal.toReal (x (ix2 (clampRow r) j))
  D r := (d (ix1 (clampRow r))).toNat
  W1 i j := EReal.toReal (w1 (ix2 i j))
  B1 j := EReal.toReal (b1 (ix1 j))
  W2 i j := EReal.toReal (w2 (ix2 i j))
  B2 j := EReal.toReal (b2 (ix1 j))
  W3 i j := EReal.toReal (w3 (ix2 i j))
  B3 j := EReal.toReal (b3 (ix1 j))
  Wr i j := EReal.toReal (wr (ix2 i j))
  Br j := EReal.toReal (br (ix1 j))
  K i j := EReal.toReal (wk (ix2 i j))
  Wq i j := EReal.toReal (wq (ix2 i j))

open Cert.Pre_admissible in
/-- The precondition gives real numbers and sorted segments below 16. -/
theorem given_of (x : FVec Ideal S32768x32 .f32) (d : IVec S32768 32) (w1 : FVec Ideal S32x128 .f32) (b1 : FVec Ideal S128 .f32)
    (w2 : FVec Ideal S128x128 .f32) (b2 : FVec Ideal S128 .f32) (w3 : FVec Ideal S128x128 .f32) (b3 : FVec Ideal S128 .f32)
    (wr : FVec Ideal S128x128 .f32) (br : FVec Ideal S128 .f32) (wk : FVec Ideal S160x256 .f32) (bk : FVec Ideal S256 .f32) (wq : FVec Ideal S4x64 .f32)
    (h : fn (F := Ideal) x d w1 b1 w2 b2 w3 b3 wr br wk bk wq = fun _ => 1#1) :
    (paramsOf x d w1 b1 w2 b2 w3 b3 wr br wk wq).Given x d w1 b1 w2 b2 w3 b3 wr br wk wq := by
  have h0 := congrFun h ix0
  dsimp only [fn, fn_part1, fn_part2, fn_part3] at h0
  simp only [WordCmp.andi_at, IntOp.andi_eq_one] at h0
  obtain ⟨⟨⟨⟨⟨⟨⟨⟨⟨⟨⟨⟨hd, hs⟩, hx⟩, h1⟩, hb1⟩, h2⟩, hb2⟩, h3⟩, hb3⟩, hr⟩, hbr⟩, hk⟩, hq⟩ := h0
  haveI : Subsingleton S_.Idx := ⟨fun a b => funext fun k => k.elim0⟩
  have small : ∀ i : Fin 32768, (d (ix1 i)).toNat < 16 := fun i => by
    have e := Host.reduce_andi_all _ _ _ _ ix0 hd (ix1 i)
    have e' : IntOp.andi (IntOp.cmpi .sge (d (ix1 i)) 0#32) (IntOp.cmpi .slt (d (ix1 i)) 16#32) = 1#1 := e
    rw [IntOp.andi_eq_one, IntOp.cmpi_sge, IntOp.cmpi_slt] at e'
    have h16 : (16#32 : BitVec 32).toInt = 16 := by decide
    have h00 : (0#32 : BitVec 32).toInt = 0 := by decide
    rw [h16, h00] at e'
    rw [BitVec.toInt_eq_toNat_cond] at e'
    split at e' <;> omega
  have step : ∀ r, (h : r + 1 < 32768) → (d (ix1 ⟨r, by omega⟩)).toNat ≤ (d (ix1 ⟨r + 1, h⟩)).toNat := fun r hr' => by
    have e := Host.reduce_andi_all _ _ _ _ ix0 hs (ix1 (⟨r, by omega⟩ : Fin 32767))
    have a1 : extractStridedSlice S32767 ![1] d Gen.slices_S32768_S32767_1 (ix1 (⟨r, by omega⟩ : Fin 32767)) = d (ix1 ⟨r + 1, hr'⟩) := by
      pointwise
      exact congrArg (fun k => d (ix1 k)) (Fin.ext (Nat.add_comm 1 r))
    have a0 : extractStridedSlice S32767 ![0] d Gen.slices_S32768_S32767_0 (ix1 (⟨r, by omega⟩ : Fin 32767)) = d (ix1 ⟨r, by omega⟩) := by
      pointwise
    have e' : IntOp.cmpi .sge (extractStridedSlice S32767 ![1] d Gen.slices_S32768_S32767_1 (ix1 (⟨r, by omega⟩ : Fin 32767)))
        (extractStridedSlice S32767 ![0] d Gen.slices_S32768_S32767_0 (ix1 (⟨r, by omega⟩ : Fin 32767))) = 1#1 := e
    rw [a1, a0] at e'
    rw [IntOp.cmpi_sge] at e'
    have s1 := small ⟨r, by omega⟩
    have s2 := small ⟨r + 1, hr'⟩
    rw [BitVec.toInt_eq_toNat_of_lt (by omega), BitVec.toInt_eq_toNat_of_lt (by omega)] at e'
    omega
  refine ⟨fun i j => ?_, fun i => ?_, fun r => small _, monotone_nat_of_le_succ fun r => ?_, fun i j => ?_, fun j => ?_, fun i j => ?_, fun j => ?_,
    fun i j => ?_, fun j => ?_, fun i j => ?_, fun j => ?_, fun i j => ?_, fun i j => ?_⟩
  · show _ = ((EReal.toReal (x (ix2 (clampRow i.val) j)) : ℝ) : EReal)
    rw [clampRow_val]
    exact real_entries x _ (fun _ => rfl) _ _ _ _ hx _
  · show d (ix1 i) = BitVec.ofNat 32 (d (ix1 (clampRow i.val))).toNat
    rw [clampRow_val, BitVec.ofNat_toNat, BitVec.setWidth_eq]
  · show (d (ix1 (clampRow r))).toNat ≤ (d (ix1 (clampRow (r + 1)))).toNat
    by_cases hr' : r + 1 < 32768
    · rw [clampRow_val ⟨r + 1, hr'⟩, clampRow_val ⟨r, by omega⟩]
      exact step r hr'
    · have : clampRow (r + 1) = clampRow r := Fin.ext (by simp only [clampRow]; omega)
      rw [this]
  · exact real_entries w1 _ (fun _ => rfl) _ _ _ _ h1 _
  · exact real_entries b1 _ (fun _ => rfl) _ _ _ _ hb1 _
  · exact real_entries w2 _ (fun _ => rfl) _ _ _ _ h2 _
  · exact real_entries b2 _ (fun _ => rfl) _ _ _ _ hb2 _
  · exact real_entries w3 _ (fun _ => rfl) _ _ _ _ h3 _
  · exact real_entries b3 _ (fun _ => rfl) _ _ _ _ hb3 _
  · exact real_entries wr _ (fun _ => rfl) _ _ _ _ hr _
  · exact real_entries br _ (fun _ => rfl) _ _ _ _ hbr _
  · exact real_entries wk _ (fun _ => rfl) _ _ _ _ hk _
  · exact real_entries wq _ (fun _ => rfl) _ _ _ _ hq _

end Cert.Value

end
-- ==== Proof.lean ====
/- The certificate's claims: the three programs' frames, that the idealised kernel is the kernel with its sanctioned
   rewrites, and that the idealised kernel and reference compute equal results on admissible arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_admissible
public import proofs.«01_k».proof.Proof.Result
public import proofs.«01_k».proof.Proof.Admissible
public import Idealize.ShloMosaic.Adequacy
public import Idealize.ShloMosaic.Init

@[expose] public section

noncomputable section

namespace Cert.Proof

open Idealize.ShloMosaic Idealize.SL.Sem

/-- The kernel runs from any memory, leaves its arguments unchanged and its counters at zero. -/
theorem frame_kernel : Cert.quiescent_Kernel := fun m ρ _ => Cert.Kernel.Gen.frame m ρ

/-- So does the idealised kernel, -/
theorem frame_ideal : Cert.quiescent_KernelIdeal := fun m ρ _ => Cert.KernelIdeal.Gen.frame m ρ

/-- on admissible arguments too; -/
theorem frame_ideal_admissible : Cert.quiescent_KernelIdeal_pre_admissible := fun m ρ _ => Cert.KernelIdeal.Gen.frame m ρ

/-- and the idealised reference, which has no counters, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- on admissible arguments too. -/
theorem frame_reference_admissible : Cert.quiescent_ReferenceIdeal_pre_admissible := fun m ρ _ => frame_reference m ρ trivial

/-- Each rewrite that turns the kernel into the idealised one is an instance of its rule. -/
theorem preserves : Cert.preserves_Kernel_KernelIdeal :=
  ⟨IdealRules.bf16_pack.statement _, IdealRules.bf16_pack.statement _, IdealRules.bf16_pack.statement _, IdealRules.bf16_pack.statement _,
    IdealRules.bf16_pack.statement _, IdealRules.bf16_pack.statement _, IdealRules.bf16_pack.statement _, IdealRules.bf16_pack.statement _⟩

/-- On admissible arguments the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (pre : Cert.Pre_KernelIdeal_admissible m)
    (same : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v64 m' c = Cert.KernelIdeal.Value.G13 m c := by
  obtain ⟨h0, h1, h2, h3, h4, h5, h6, h7, h8, h9, h10, h11, h12⟩ := same
  rw [Cert.Value.Ref.result_eq, h0, h1, h2, h3, h4, h5, h6, h7, h8, h9, h10, h11, h12]
  exact (Cert.Value.kernel_eq (Cert.Value.given_of _ _ _ _ _ _ _ _ _ _ _ _ _ (pre c))).symm

/-- On admissible arguments the idealised kernel and the idealised reference end with equal results. -/
theorem algebraic : Cert.algebraic_KernelIdeal_ReferenceIdeal_pre_admissible := fun m g m' g' pre same =>
  ⟨fun c => Cert.KernelIdeal.Value.G13 m c, Cert.KernelIdeal.Value.run m g,
    (θ_run Cert.ReferenceIdeal.defs _ _).mono (fun _ h c => ⟨(h c).1.trans (results_agree m m' c pre (same c)), (h c).2⟩)
      (Cert.ReferenceIdeal.Value.run m' g')⟩

/-- Everything the certificate claims. -/
theorem claim : Cert.Claim :=
  ⟨Cert.Kernel.Gen.facts, Cert.KernelIdeal.Gen.facts, Cert.ReferenceIdeal.Gen.facts, Cert.Pre_admissible.Gen.facts, frame_kernel, frame_ideal,
    frame_ideal_admissible, frame_reference, frame_reference_admissible, preserves, algebraic⟩

end Cert.Proof

end
